-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320x128 : Shape := ⟨3, ![2, 320, 128]⟩
abbrev S2x320 : Shape := ⟨2, ![2, 320]⟩
abbrev S2x320x64 : Shape := ⟨3, ![2, 320, 64]⟩
abbrev S2x256x128 : Shape := ⟨3, ![2, 256, 128]⟩
abbrev S2x256 : Shape := ⟨2, ![2, 256]⟩
abbrev S2x256x64 : Shape := ⟨3, ![2, 256, 64]⟩
abbrev S2x128x320 : Shape := ⟨3, ![2, 128, 320]⟩
abbrev S_ : Shape := ⟨0, ![]⟩
abbrev S2x128x384 : Shape := ⟨3, ![2, 128, 384]⟩
abbrev S2x64x320 : Shape := ⟨3, ![2, 64, 320]⟩
abbrev S2x384x384 : Shape := ⟨3, ![2, 384, 384]⟩
abbrev S2x128x256 : Shape := ⟨3, ![2, 128, 256]⟩
abbrev S2x64x256 : Shape := ⟨3, ![2, 64, 256]⟩
abbrev S2x384 : Shape := ⟨2, ![2, 384]⟩
abbrev S2x1x384 : Shape := ⟨3, ![2, 1, 384]⟩
abbrev S2x1x256 : Shape := ⟨3, ![2, 1, 256]⟩
abbrev S1809x128 : Shape := ⟨2, ![1809, 128]⟩
abbrev S1x128x384 : Shape := ⟨3, ![1, 128, 384]⟩
abbrev S128x384 : Shape := ⟨2, ![128, 384]⟩
abbrev S1809x384 : Shape := ⟨2, ![1809, 384]⟩
abbrev S1x1x384 : Shape := ⟨3, ![1, 1, 384]⟩
abbrev S1x384 : Shape := ⟨2, ![1, 384]⟩
abbrev S1809x64 : Shape := ⟨2, ![1809, 64]⟩
abbrev S1x128x256 : Shape := ⟨3, ![1, 128, 256]⟩
abbrev S128x256 : Shape := ⟨2, ![128, 256]⟩
abbrev S1x128 : Shape := ⟨2, ![1, 128]⟩
abbrev S1x256 : Shape := ⟨2, ![1, 256]⟩
abbrev S1x1x256 : Shape := ⟨3, ![1, 1, 256]⟩
abbrev S1x64 : Shape := ⟨2, ![1, 64]⟩
abbrev S904x128 : Shape := ⟨2, ![904, 128]⟩
abbrev S904x384 : Shape := ⟨2, ![904, 384]⟩
abbrev S1x384x384 : Shape := ⟨3, ![1, 384, 384]⟩
abbrev S384x384 : Shape := ⟨2, ![384, 384]⟩
abbrev S904x64 : Shape := ⟨2, ![904, 64]⟩
abbrev S1x256x384 : Shape := ⟨3, ![1, 256, 384]⟩
abbrev S256x384 : Shape := ⟨2, ![256, 384]⟩
abbrev S2x128 : Shape := ⟨2, ![2, 128]⟩
abbrev S2x64 : Shape := ⟨2, ![2, 64]⟩
abbrev S3191x128 : Shape := ⟨2, ![3191, 128]⟩
abbrev S3191x384 : Shape := ⟨2, ![3191, 384]⟩
abbrev S3191x64 : Shape := ⟨2, ![3191, 64]⟩
abbrev S4x128 : Shape := ⟨2, ![4, 128]⟩
abbrev S4x256 : Shape := ⟨2, ![4, 256]⟩
abbrev S4x64 : Shape := ⟨2, ![4, 64]⟩
abbrev S2048x128 : Shape := ⟨2, ![2048, 128]⟩
abbrev S2048x384 : Shape := ⟨2, ![2048, 384]⟩
abbrev S2048x64 : Shape := ⟨2, ![2048, 64]⟩
abbrev S8x128 : Shape := ⟨2, ![8, 128]⟩
abbrev S8x256 : Shape := ⟨2, ![8, 256]⟩
abbrev S8x64 : Shape := ⟨2, ![8, 64]⟩
abbrev S1024x128 : Shape := ⟨2, ![1024, 128]⟩
abbrev S1024x384 : Shape := ⟨2, ![1024, 384]⟩
abbrev S1024x64 : Shape := ⟨2, ![1024, 64]⟩
abbrev S16x128 : Shape := ⟨2, ![16, 128]⟩
abbrev S16x256 : Shape := ⟨2, ![16, 256]⟩
abbrev S16x64 : Shape := ⟨2, ![16, 64]⟩
abbrev S512x128 : Shape := ⟨2, ![512, 128]⟩
abbrev S512x384 : Shape := ⟨2, ![512, 384]⟩
abbrev S512x64 : Shape := ⟨2, ![512, 64]⟩
abbrev S32x128 : Shape := ⟨2, ![32, 128]⟩
abbrev S32x256 : Shape := ⟨2, ![32, 256]⟩
abbrev S32x64 : Shape := ⟨2, ![32, 64]⟩
abbrev S256x128 : Shape := ⟨2, ![256, 128]⟩
abbrev S256x64 : Shape := ⟨2, ![256, 64]⟩
abbrev S64x128 : Shape := ⟨2, ![64, 128]⟩
abbrev S64x256 : Shape := ⟨2, ![64, 256]⟩
abbrev S64x64 : Shape := ⟨2, ![64, 64]⟩
abbrev S128x128 : Shape := ⟨2, ![128, 128]⟩
abbrev S128x64 : Shape := ⟨2, ![128, 64]⟩
abbrev S64x384 : Shape := ⟨2, ![64, 384]⟩
abbrev S256x256 : Shape := ⟨2, ![256, 256]⟩
abbrev S32x384 : Shape := ⟨2, ![32, 384]⟩
abbrev S512x256 : Shape := ⟨2, ![512, 256]⟩
abbrev S16x384 : Shape := ⟨2, ![16, 384]⟩
abbrev S1024x256 : Shape := ⟨2, ![1024, 256]⟩
abbrev S8x384 : Shape := ⟨2, ![8, 384]⟩
abbrev S2048x256 : Shape := ⟨2, ![2048, 256]⟩
abbrev S4x384 : Shape := ⟨2, ![4, 384]⟩
abbrev S905x128 : Shape := ⟨2, ![905, 128]⟩
abbrev S905x256 : Shape := ⟨2, ![905, 256]⟩
abbrev S905x64 : Shape := ⟨2, ![905, 64]⟩
abbrev S904x256 : Shape := ⟨2, ![904, 256]⟩
abbrev S10000x64 : Shape := ⟨2, ![10000, 64]⟩

abbrev nBuf : Space → Nat
  | .hbm => 47
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S2x320x128, .f32⟩
  | .hbm, ⟨2, _⟩ => ⟨S2x320, .f32⟩
  | .hbm, ⟨3, _⟩ => ⟨S2x320x64, .f32⟩
  | .hbm, ⟨4, _⟩ => ⟨S2x320, .f32⟩
  | .hbm, ⟨5, _⟩ => ⟨S2x320x64, .f32⟩
  | .hbm, ⟨6, _⟩ => ⟨S2x320, .f32⟩
  | .hbm, ⟨7, _⟩ => ⟨S2x256x128, .f32⟩
  | .hbm, ⟨8, _⟩ => ⟨S2x256, .f32⟩
  | .hbm, ⟨9, _⟩ => ⟨S2x256x64, .f32⟩
  | .hbm, ⟨10, _⟩ => ⟨S2x256, .f32⟩
  | .hbm, ⟨11, _⟩ => ⟨S2x128x320, .f32⟩
  | .hbm, ⟨12, _⟩ => ⟨S_, .i32⟩
  | .hbm, ⟨13, _⟩ => ⟨S_, .f32⟩
  | .hbm, ⟨14, _⟩ => ⟨S2x128x384, .f32⟩
  | .hbm, ⟨15, _⟩ => ⟨S2x64x320, .f32⟩
  | .hbm, ⟨16, _⟩ => ⟨S_, .i32⟩
  | .hbm, ⟨17, _⟩ => ⟨S_, .f32⟩
  | .hbm, ⟨18, _⟩ => ⟨S2x128x384, .f32⟩
  | .hbm, ⟨19, _⟩ => ⟨S2x64x320, .f32⟩
  | .hbm, ⟨20, _⟩ => ⟨S_, .i32⟩
  | .hbm, ⟨21, _⟩ => ⟨S_, .f32⟩
  | .hbm, ⟨22, _⟩ => ⟨S2x128x384, .f32⟩
  | .hbm, ⟨23, _⟩ => ⟨S2x384x384, .f32⟩
  | .hbm, ⟨24, _⟩ => ⟨S2x128x256, .f32⟩
  | .hbm, ⟨25, _⟩ => ⟨S2x64x256, .f32⟩
  | .hbm, ⟨26, _⟩ => ⟨S_, .i32⟩
  | .hbm, ⟨27, _⟩ => ⟨S_, .f32⟩
  | .hbm, ⟨28, _⟩ => ⟨S2x128x256, .f32⟩
  | .hbm, ⟨29, _⟩ => ⟨S_, .i32⟩
  | .hbm, ⟨30, _⟩ => ⟨S_, .f32⟩
  | .hbm, ⟨31, _⟩ => ⟨S2x384, .f32⟩
  | .hbm, ⟨32, _⟩ => ⟨S2x1x384, .f32⟩
  | .hbm, ⟨33, _⟩ => ⟨S2x320, .f32⟩
  | .hbm, ⟨34, _⟩ => ⟨S2x320, .f32⟩
  | .hbm, ⟨35, _⟩ => ⟨S_, .i32⟩
  | .hbm, ⟨36, _⟩ => ⟨S_, .f32⟩
  | .hbm, ⟨37, _⟩ => ⟨S2x384, .f32⟩
  | .hbm, ⟨38, _⟩ => ⟨S2x1x384, .f32⟩
  | .hbm, ⟨39, _⟩ => ⟨S2x320, .f32⟩
  | .hbm, ⟨40, _⟩ => ⟨S_, .i32⟩
  | .hbm, ⟨41, _⟩ => ⟨S_, .f32⟩
  | .hbm, ⟨42, _⟩ => ⟨S2x384, .f32⟩
  | .hbm, ⟨43, _⟩ => ⟨S2x1x384, .f32⟩
  | .hbm, ⟨44, _⟩ => ⟨S2x256, .f32⟩
  | .hbm, ⟨45, _⟩ => ⟨S2x1x256, .f32⟩
  | .hbm, ⟨46, _⟩ => ⟨S10000x128, .f32⟩
  | .local _ .vmem, ⟨0, _⟩ => ⟨S10000x128, .f32⟩
  | .local _ .vmem, ⟨1, _⟩ => ⟨S2x384x384, .f32⟩
  | .local _ .vmem, ⟨2, _⟩ => ⟨S2x1x384, .f32⟩
  | .local _ .vmem, ⟨3, _⟩ => ⟨S2x1x384, .f32⟩
  | .local _ .vmem, ⟨4, _⟩ => ⟨S2x1x384, .f32⟩
  | .local _ .vmem, ⟨5, _⟩ => ⟨S2x128x256, .f32⟩
  | .local _ .vmem, ⟨6, _⟩ => ⟨S2x128x256, .f32⟩
  | .local _ .vmem, ⟨7, _⟩ => ⟨S2x1x256, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_call2_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_call3_v0 : Ref sig .tc := ⟨.hbm, 27, rfl⟩
abbrev main_v9 : Ref sig .tc := ⟨.hbm, 28, rfl⟩
abbrev main_c_3 : Ref sig .tc := ⟨.hbm, 29, rfl⟩
abbrev main_call4_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_call5_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_call6_v0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10000x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S10000x128 : Shape := ⟨2, ![10000, 128]⟩
abbrev S2x320x128 : Shape := ⟨3, ![2, 320, 128]⟩
abbrev S2x320 : Shape := ⟨2, ![2, 320]⟩
abbrev S2x320x64 : Shape := ⟨3, ![2, 320, 64]⟩
abbrev S2x256x128 : Shape := ⟨3, ![2, 256, 128]⟩
abbrev S2x256 : Shape := ⟨2, ![2, 256]⟩
abbrev S2x256x64 : Shape := ⟨3, ![2, 256, 64]⟩
abbrev S_ : Shape := ⟨0, ![]⟩
abbrev S1x10000x128 : Shape := ⟨3, ![1, 10000, 128]⟩
abbrev S2x10000x128 : Shape := ⟨3, ![2, 10000, 128]⟩
abbrev S3x10000x128 : Shape := ⟨3, ![3, 10000, 128]⟩
abbrev S1x1x128 : Shape := ⟨3, ![1, 1, 128]⟩
abbrev S1x128 : Shape := ⟨2, ![1, 128]⟩
abbrev S1x64 : Shape := ⟨2, ![1, 64]⟩
abbrev S1x1x64 : Shape := ⟨3, ![1, 1, 64]⟩
abbrev S1x320x128 : Shape := ⟨3, ![1, 320, 128]⟩
abbrev S320x128 : Shape := ⟨2, ![320, 128]⟩
abbrev S128x320 : Shape := ⟨2, ![128, 320]⟩
abbrev S1x320 : Shape := ⟨2, ![1, 320]⟩
abbrev S1x320x64 : Shape := ⟨3, ![1, 320, 64]⟩
abbrev S320x64 : Shape := ⟨2, ![320, 64]⟩
abbrev S64x320 : Shape := ⟨2, ![64, 320]⟩
abbrev S1x256x128 : Shape := ⟨3, ![1, 256, 128]⟩
abbrev S256x128 : Shape := ⟨2, ![256, 128]⟩
abbrev S128x256 : Shape := ⟨2, ![128, 256]⟩
abbrev S1x256 : Shape := ⟨2, ![1, 256]⟩
abbrev S1x256x64 : Shape := ⟨3, ![1, 256, 64]⟩
abbrev S256x64 : Shape := ⟨2, ![256, 64]⟩
abbrev S64x256 : Shape := ⟨2, ![64, 256]⟩

abbrev nBuf : Space → Nat
  | .hbm => 258
  | .vmem => 0
  | .smem => 0
  | _ => 0

abbrev hbmTy0_0 (i : Nat) : BufTy := match i % 128 with
  | 0 => ⟨S10000x128, .f32⟩
  | 1 => ⟨S2x320x128, .f32⟩
  | 2 => ⟨S2x320, .f32⟩
  | 3 => ⟨S2x320x64, .f32⟩
  | 4 => ⟨S2x320, .f32⟩
  | 5 => ⟨S2x320x64, .f32⟩
  | 6 => ⟨S2x320, .f32⟩
  | 7 => ⟨S2x256x128, .f32⟩
  | 8 => ⟨S2x256, .f32⟩
  | 9 => ⟨S2x256x64, .f32⟩
  | 10 => ⟨S2x256, .f32⟩
  | 11 => ⟨S_, .f32⟩
  | 12 => ⟨S10000x128, .f32⟩
  | 13 => ⟨S1x10000x128, .f32⟩
  | 14 => ⟨S_, .f32⟩
  | 15 => ⟨S2x10000x128, .f32⟩
  | 16 => ⟨S3x10000x128, .f32⟩
  | 17 => ⟨S_, .i32⟩
  | 18 => ⟨S_, .i32⟩
  | 19 => ⟨S2x320x128, .f32⟩
  | 20 => ⟨S2x320, .f32⟩
  | 21 => ⟨S2x320x64, .f32⟩
  | 22 => ⟨S2x320, .f32⟩
  | 23 => ⟨S2x320x64, .f32⟩
  | 24 => ⟨S2x320, .f32⟩
  | 25 => ⟨S2x256x128, .f32⟩
  | 26 => ⟨S2x256, .f32⟩
  | 27 => ⟨S2x256x64, .f32⟩
  | 28 => ⟨S2x256, .f32⟩
  | 29 => ⟨S_, .i32⟩
  | 30 => ⟨S_, .i32⟩
  | 31 => ⟨S3x10000x128, .f32⟩
  | 32 => ⟨S10000x128, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S1x1x128, .f32⟩
  | 45 => ⟨S1x128, .f32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .f32⟩
  | 57 => ⟨S_, .i32⟩
  | 58 => ⟨S_, .i1⟩
  | 59 => ⟨S_, .f32⟩
  | 60 => ⟨S_, .i32⟩
  | 61 => ⟨S_, .i32⟩
  | 62 => ⟨S_, .i32⟩
  | 63 => ⟨S_, .i32⟩
  | 64 => ⟨S_, .i32⟩
  | 65 => ⟨S1x64, .f32⟩
  | 66 => ⟨S1x64, .f32⟩
  | 67 => ⟨S1x64, .f32⟩
  | 68 => ⟨S_, .i32⟩
  | 69 => ⟨S_, .i32⟩
  | 70 => ⟨S_, .i32⟩
  | 71 => ⟨S1x1x64, .f32⟩
  | 72 => ⟨S1x64, .f32⟩
  | 73 => ⟨S1x64, .f32⟩
  | 74 => ⟨S1x64, .f32⟩
  | 75 => ⟨S_, .i32⟩
  | 76 => ⟨S1x64, .f32⟩
  | 77 => ⟨S1x64, .f32⟩
  | 78 => ⟨S1x64, .f32⟩
  | 79 => ⟨S_, .i32⟩
  | 80 => ⟨S_, .i32⟩
  | 81 => ⟨S_, .i32⟩
  | 82 => ⟨S1x1x64, .f32⟩
  | 83 => ⟨S1x64, .f32⟩
  | 84 => ⟨S1x64, .f32⟩
  | 85 => ⟨S1x64, .f32⟩
  | 86 => ⟨S_, .i32⟩
  | 87 => ⟨S_, .i32⟩
  | 88 => ⟨S1x320x128, .f32⟩
  | 89 => ⟨S320x128, .f32⟩
  | 90 => ⟨S128x320, .f32⟩
  | 91 => ⟨S1x320, .f32⟩
  | 92 => ⟨S_, .i32⟩
  | 93 => ⟨S1x320, .f32⟩
  | 94 => ⟨S1x320, .f32⟩
  | 95 => ⟨S_, .i32⟩
  | 96 => ⟨S_, .i32⟩
  | 97 => ⟨S1x320x64, .f32⟩
  | 98 => ⟨S320x64, .f32⟩
  | 99 => ⟨S64x320, .f32⟩
  | 100 => ⟨S1x320, .f32⟩
  | 101 => ⟨S_, .i32⟩
  | 102 => ⟨S1x320, .f32⟩
  | 103 => ⟨S1x320, .f32⟩
  | 104 => ⟨S1x320, .f32⟩
  | 105 => ⟨S1x320, .f32⟩
  | 106 => ⟨S1x320, .f32⟩
  | 107 => ⟨S_, .i32⟩
  | 108 => ⟨S_, .i32⟩
  | 109 => ⟨S1x320x64, .f32⟩
  | 110 => ⟨S320x64, .f32⟩
  | 111 => ⟨S64x320, .f32⟩
  | 112 => ⟨S1x320, .f32⟩
  | 113 => ⟨S_, .i32⟩
  | 114 => ⟨S1x320, .f32⟩
  | 115 => ⟨S1x320, .f32⟩
  | 116 => ⟨S1x320, .f32⟩
  | 117 => ⟨S1x320, .f32⟩
  | 118 => ⟨S1x320, .f32⟩
  | 119 => ⟨S1x64, .f32⟩
  | 120 => ⟨S1x64, .f32⟩
  | 121 => ⟨S1x64, .f32⟩
  | 122 => ⟨S1x64, .f32⟩
  | 123 => ⟨S1x64, .f32⟩
  | 124 => ⟨S1x64, .f32⟩
  | 125 => ⟨S1x64, .f32⟩
  | 126 => ⟨S_, .f32⟩
  | 127 => ⟨S1x64, .f32⟩
  | _ => ⟨S10000x128, .f32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S1x64, .f32⟩
  | 5 => ⟨S1x64, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S_, .f32⟩
  | 12 => ⟨S1x64, .f32⟩
  | 13 => ⟨S1x64, .f32⟩
  | 14 => ⟨S1x64, .f32⟩
  | 15 => ⟨S1x64, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S_, .f32⟩
  | 22 => ⟨S1x64, .f32⟩
  | 23 => ⟨S1x64, .f32⟩
  | 24 => ⟨S1x64, .f32⟩
  | 25 => ⟨S1x64, .f32⟩
  | 26 => ⟨S1x64, .f32⟩
  | 27 => ⟨S1x64, .f32⟩
  | 28 => ⟨S_, .f32⟩
  | 29 => ⟨S1x64, .f32⟩
  | 30 => ⟨S1x64, .f32⟩
  | 31 => ⟨S_, .f32⟩
  | 32 => ⟨S1x64, .f32⟩
  | 33 => ⟨S1x64, .f32⟩
  | 34 => ⟨S1x64, .f32⟩
  | 35 => ⟨S1x64, .f32⟩
  | 36 => ⟨S_, .i32⟩
  | 37 => ⟨S1x1x128, .f32⟩
  | 38 => ⟨S1x128, .f32⟩
  | 39 => ⟨S_, .i32⟩
  | 40 => ⟨S_, .i1⟩
  | 41 => ⟨S_, .f32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S1x64, .f32⟩
  | 50 => ⟨S1x64, .f32⟩
  | 51 => ⟨S1x64, .f32⟩
  | 52 => ⟨S_, .i32⟩
  | 53 => ⟨S_, .i32⟩
  | 54 => ⟨S_, .i32⟩
  | 55 => ⟨S1x1x64, .f32⟩
  | 56 => ⟨S1x64, .f32⟩
  | 57 => ⟨S1x64, .f32⟩
  | 58 => ⟨S1x64, .f32⟩
  | 59 => ⟨S_, .i32⟩
  | 60 => ⟨S_, .i32⟩
  | 61 => ⟨S1x256x128, .f32⟩
  | 62 => ⟨S256x128, .f32⟩
  | 63 => ⟨S128x256, .f32⟩
  | 64 => ⟨S1x256, .f32⟩
  | 65 => ⟨S_, .i32⟩
  | 66 => ⟨S1x256, .f32⟩
  | 67 => ⟨S1x256, .f32⟩
  | 68 => ⟨S_, .i32⟩
  | 69 => ⟨S_, .i32⟩
  | 70 => ⟨S1x256x64, .f32⟩
  | 71 => ⟨S256x64, .f32⟩
  | 72 => ⟨S64x256, .f32⟩
  | 73 => ⟨S1x256, .f32⟩
  | 74 => ⟨S1x256, .f32⟩
  | 75 => ⟨S_, .i32⟩
  | 76 => ⟨S1x256, .f32⟩
  | 77 => ⟨S1x256, .f32⟩
  | 78 => ⟨S1x64, .f32⟩
  | 79 => ⟨S1x64, .f32⟩
  | 80 => ⟨S1x64, .f32⟩
  | 81 => ⟨S1x64, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S_, .f32⟩
  | 88 => ⟨S1x64, .f32⟩
  | 89 => ⟨S1x64, .f32⟩
  | 90 => ⟨S1x64, .f32⟩
  | 91 => ⟨S1x64, .f32⟩
  | 92 => ⟨S1x64, .f32⟩
  | 93 => ⟨S1x64, .f32⟩
  | 94 => ⟨S_, .f32⟩
  | 95 => ⟨S1x64, .f32⟩
  | 96 => ⟨S1x64, .f32⟩
  | 97 => ⟨S_, .f32⟩
  | 98 => ⟨S1x64, .f32⟩
  | 99 => ⟨S1x64, .f32⟩
  | 100 => ⟨S1x64, .f32⟩
  | 101 => ⟨S1x64, .f32⟩
  | 102 => ⟨S1x64, .f32⟩
  | 103 => ⟨S1x64, .f32⟩
  | 104 => ⟨S_, .f32⟩
  | 105 => ⟨S1x64, .f32⟩
  | 106 => ⟨S1x64, .f32⟩
  | 107 => ⟨S_, .f32⟩
  | 108 => ⟨S1x64, .f32⟩
  | 109 => ⟨S1x64, .f32⟩
  | 110 => ⟨S1x64, .f32⟩
  | 111 => ⟨S1x64, .f32⟩
  | 112 => ⟨S1x1x64, .f32⟩
  | 113 => ⟨S_, .i32⟩
  | 114 => ⟨S_, .i32⟩
  | 115 => ⟨S_, .i32⟩
  | 116 => ⟨S3x10000x128, .f32⟩
  | 117 => ⟨S1x1x64, .f32⟩
  | 118 => ⟨S_, .i32⟩
  | 119 => ⟨S_, .i32⟩
  | 120 => ⟨S_, .i32⟩
  | 121 => ⟨S3x10000x128, .f32⟩
  | 122 => ⟨S_, .i32⟩
  | 123 => ⟨S10000x128, .f32⟩
  | 124 => ⟨S_, .i32⟩
  | 125 => ⟨S10000x128, .f32⟩
  | 126 => ⟨S_, .i32⟩
  | 127 => ⟨S_, .i32⟩
  | _ => ⟨S10000x128, .f32⟩

abbrev hbmTy0_2 (i : Nat) : BufTy := match i % 128 with
  | 0 => ⟨S1x10000x128, .f32⟩
  | 1 => ⟨S10000x128, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_c_1 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_v4_3 : Ref sig .tc := ⟨.hbm, 22, rfl⟩
abbrev main_v4_4 : Ref sig .tc := ⟨.hbm, 23, rfl⟩
abbrev main_v4_5 : Ref sig .tc := ⟨.hbm, 24, rfl⟩
abbrev main_v4_6 : Ref sig .tc := ⟨.hbm, 25, rfl⟩
abbrev main_v4_7 : Ref sig .tc := ⟨.hbm, 26, rfl⟩
abbrev main_v4_8 : Ref sig .tc := ⟨.hbm, 27, rfl⟩
abbrev main_v4_9 : Ref sig .tc := ⟨.hbm, 28, rfl⟩
abbrev main_v4_10 : Ref sig .tc := ⟨.hbm, 29, rfl⟩
abbrev main_v4_11 : Ref sig .tc := ⟨.hbm, 30, rfl⟩
abbrev main_v4_12 : Ref sig .tc := ⟨.hbm, 31, rfl⟩
abbrev main_v4_13 : Ref sig .tc := ⟨.hbm, 32, rfl⟩
abbrev main_while0c_c_15 : Ref sig .tc := ⟨.hbm, 33, rfl⟩
abbrev main_while0c_v7 : Ref sig .tc := ⟨.hbm, 34, rfl⟩
abbrev main_while0b_c_15 : Ref sig .tc := ⟨.hbm, 35, rfl⟩
abbrev main_while0b_v7 : Ref sig .tc := ⟨.hbm, 36, rfl⟩
abbrev main_while0b_c_16 : Ref sig .tc := ⟨.hbm, 37, rfl⟩
abbrev main_while0b_v8 : Ref sig .tc := ⟨.hbm, 38, rfl⟩
abbrev main_while0b_c_17 : Ref sig .tc := ⟨.hbm, 39, rfl⟩
abbrev main_while0b_v9 : Ref sig .tc := ⟨.hbm, 40, rfl⟩
abbrev main_while0b_c_18 : Ref sig .tc := ⟨.hbm, 41, rfl⟩
abbrev main_while0b_v10 : Ref sig .tc := ⟨.hbm, 42, rfl⟩
abbrev main_while0b_c_19 : Ref sig .tc := ⟨.hbm, 43, rfl⟩
abbrev main_while0b_v11 : Ref sig .tc := ⟨.hbm, 44, rfl⟩
abbrev main_while0b_v12 : Ref sig .tc := ⟨.hbm, 45, rfl⟩
abbrev main_while0b_c_20 : Ref sig .tc := ⟨.hbm, 46, rfl⟩
abbrev main_while0b_v13 : Ref sig .tc := ⟨.hbm, 47, rfl⟩
abbrev main_while0b_c_21 : Ref sig .tc := ⟨.hbm, 48, rfl⟩
abbrev main_while0b_v14 : Ref sig .tc := ⟨.hbm, 49, rfl⟩
abbrev main_while0b_c_22 : Ref sig .tc := ⟨.hbm, 50, rfl⟩
abbrev main_while0b_v15 : Ref sig .tc := ⟨.hbm, 51, rfl⟩
abbrev main_while0b_c_23 : Ref sig .tc := ⟨.hbm, 52, rfl⟩
abbrev main_while0b_v16 : Ref sig .tc := ⟨.hbm, 53, rfl⟩
abbrev main_while0b_c_24 : Ref sig .tc := ⟨.hbm, 54, rfl⟩
abbrev main_while0b_v17 : Ref sig .tc := ⟨.hbm, 55, rfl⟩
abbrev main_while0b_v18 : Ref sig .tc := ⟨.hbm, 56, rfl⟩
abbrev main_while0b_c_25 : Ref sig .tc := ⟨.hbm, 57, rfl⟩
abbrev main_while0b_v19 : Ref sig .tc := ⟨.hbm, 58, rfl⟩
abbrev main_while0b_v20 : Ref sig .tc := ⟨.hbm, 59, rfl⟩
abbrev main_while0b_c_26 : Ref sig .tc := ⟨.hbm, 60, rfl⟩
abbrev main_while0b_v21 : Ref sig .tc := ⟨.hbm, 61, rfl⟩
abbrev main_while0b_c_27 : Ref sig .tc := ⟨.hbm, 62, rfl⟩
abbrev main_while0b_v22 : Ref sig .tc := ⟨.hbm, 63, rfl⟩
abbrev main_while0b_c_28 : Ref sig .tc := ⟨.hbm, 64, rfl⟩
abbrev main_while0b_v23 : Ref sig .tc := ⟨.hbm, 65, rfl⟩
abbrev main_while0b_v24 : Ref sig .tc := ⟨.hbm, 66, rfl⟩
abbrev main_while0b_v25 : Ref sig .tc := ⟨.hbm, 67, rfl⟩
abbrev main_while0b_c_29 : Ref sig .tc := ⟨.hbm, 68, rfl⟩
abbrev main_while0b_v26 : Ref sig .tc := ⟨.hbm, 69, rfl⟩
abbrev main_while0b_c_30 : Ref sig .tc := ⟨.hbm, 70, rfl⟩
abbrev main_while0b_v27 : Ref sig .tc := ⟨.hbm, 71, rfl⟩
abbrev main_while0b_v28 : Ref sig .tc := ⟨.hbm, 72, rfl⟩
abbrev main_while0b_v29 : Ref sig .tc := ⟨.hbm, 73, rfl⟩
abbrev main_while0b_v30 : Ref sig .tc := ⟨.hbm, 74, rfl⟩
abbrev main_while0b_c_31 : Ref sig .tc := ⟨.hbm, 75, rfl⟩
abbrev main_while0b_v31 : Ref sig .tc := ⟨.hbm, 76, rfl⟩
abbrev main_while0b_v32 : Ref sig .tc := ⟨.hbm, 77, rfl⟩
abbrev main_while0b_v33 : Ref sig .tc := ⟨.hbm, 78, rfl⟩
abbrev main_while0b_c_32 : Ref sig .tc := ⟨.hbm, 79, rfl⟩
abbrev main_while0b_v34 : Ref sig .tc := ⟨.hbm, 80, rfl⟩
abbrev main_while0b_c_33 : Ref sig .tc := ⟨.hbm, 81, rfl⟩
abbrev main_while0b_v35 : Ref sig .tc := ⟨.hbm, 82, rfl⟩
abbrev main_while0b_v36 : Ref sig .tc := ⟨.hbm, 83, rfl⟩
abbrev main_while0b_v37 : Ref sig .tc := ⟨.hbm, 84, rfl⟩
abbrev main_while0b_v38 : Ref sig .tc := ⟨.hbm, 85, rfl⟩
abbrev main_while0b_c_34 : Ref sig .tc := ⟨.hbm, 86, rfl⟩
abbrev main_while0b_c_35 : Ref sig .tc := ⟨.hbm, 87, rfl⟩
abbrev main_while0b_v39 : Ref sig .tc := ⟨.hbm, 88, rfl⟩
abbrev main_while0b_v40 : Ref sig .tc := ⟨.hbm, 89, rfl⟩
abbrev main_while0b_v41 : Ref sig .tc := ⟨.hbm, 90, rfl⟩
abbrev main_while0b_v42 : Ref sig .tc := ⟨.hbm, 91, rfl⟩
abbrev main_while0b_c_36 : Ref sig .tc := ⟨.hbm, 92, rfl⟩
abbrev main_while0b_v43 : Ref sig .tc := ⟨.hbm, 93, rfl⟩
abbrev main_while0b_v44 : Ref sig .tc := ⟨.hbm, 94, rfl⟩
abbrev main_while0b_c_37 : Ref sig .tc := ⟨.hbm, 95, rfl⟩
abbrev main_while0b_c_38 : Ref sig .tc := ⟨.hbm, 96, rfl⟩
abbrev main_while0b_v45 : Ref sig .tc := ⟨.hbm, 97, rfl⟩
abbrev main_while0b_v46 : Ref sig .tc := ⟨.hbm, 98, rfl⟩
abbrev main_while0b_v47 : Ref sig .tc := ⟨.hbm, 99, rfl⟩
abbrev main_while0b_v48 : Ref sig .tc := ⟨.hbm, 100, rfl⟩
abbrev main_while0b_c_39 : Ref sig .tc := ⟨.hbm, 101, rfl⟩
abbrev main_while0b_v49 : Ref sig .tc := ⟨.hbm, 102, rfl⟩
abbrev main_while0b_v50 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_c_40 : Ref sig .tc := ⟨.hbm, 107, rfl⟩
abbrev main_while0b_c_41 : Ref sig .tc := ⟨.hbm, 108, rfl⟩
abbrev main_while0b_v54 : Ref sig .tc := ⟨.hbm, 109, rfl⟩
abbrev main_while0b_v55 : Ref sig .tc := ⟨.hbm, 110, rfl⟩
abbrev main_while0b_v56 : Ref sig .tc := ⟨.hbm, 111, rfl⟩
abbrev main_while0b_v57 : Ref sig .tc := ⟨.hbm, 112, rfl⟩
abbrev main_while0b_c_42 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_v61 : Ref sig .tc := ⟨.hbm, 117, rfl⟩
abbrev main_while0b_v62 : Ref sig .tc := ⟨.hbm, 118, rfl⟩
abbrev main_while0b_v63 : Ref sig .tc := ⟨.hbm, 119, rfl⟩
abbrev main_while0b_v64 : Ref sig .tc := ⟨.hbm, 120, rfl⟩
abbrev main_while0b_v65 : Ref sig .tc := ⟨.hbm, 121, rfl⟩
abbrev main_while0b_v66 : Ref sig .tc := ⟨.hbm, 122, rfl⟩
abbrev main_while0b_v67 : Ref sig .tc := ⟨.hbm, 123, rfl⟩
abbrev main_while0b_v68 : Ref sig .tc := ⟨.hbm, 124, rfl⟩
abbrev main_while0b_v69 : Ref sig .tc := ⟨.hbm, 125, rfl⟩
abbrev main_while0b_cst_43 : Ref sig .tc := ⟨.hbm, 126, rfl⟩
abbrev main_while0b_v70 : Ref sig .tc := ⟨.hbm, 127, rfl⟩
abbrev main_while0b_v71 : Ref sig .tc := ⟨.hbm, 128, rfl⟩
abbrev main_while0b_cst_44 : Ref sig .tc := ⟨.hbm, 129, rfl⟩
abbrev main_while0b_v72 : Ref sig .tc := ⟨.hbm, 130, rfl⟩
abbrev main_while0b_v73 : Ref sig .tc := ⟨.hbm, 131, rfl⟩
abbrev main_while0b_v74 : Ref sig .tc := ⟨.hbm, 132, rfl⟩
abbrev main_while0b_v75 : Ref sig .tc := ⟨.hbm, 133, rfl⟩
abbrev main_while0b_v76 : Ref sig .tc := ⟨.hbm, 134, rfl⟩
abbrev main_while0b_v77 : Ref sig .tc := ⟨.hbm, 135, rfl⟩
abbrev main_while0b_cst_45 : Ref sig .tc := ⟨.hbm, 136, rfl⟩
abbrev main_while0b_v78 : Ref sig .tc := ⟨.hbm, 137, rfl⟩
abbrev main_while0b_v79 : Ref sig .tc := ⟨.hbm, 138, rfl⟩
abbrev main_while0b_cst_46 : Ref sig .tc := ⟨.hbm, 139, rfl⟩
abbrev main_while0b_v80 : Ref sig .tc := ⟨.hbm, 140, rfl⟩
abbrev main_while0b_v81 : Ref sig .tc := ⟨.hbm, 141, rfl⟩
abbrev main_while0b_v82 : Ref sig .tc := ⟨.hbm, 142, rfl⟩
abbrev main_while0b_v83 : Ref sig .tc := ⟨.hbm, 143, rfl⟩
abbrev main_while0b_v84 : Ref sig .tc := ⟨.hbm, 144, rfl⟩
abbrev main_while0b_v85 : Ref sig .tc := ⟨.hbm, 145, rfl⟩
abbrev main_while0b_cst_47 : Ref sig .tc := ⟨.hbm, 146, rfl⟩
abbrev main_while0b_v86 : Ref sig .tc := ⟨.hbm, 147, rfl⟩
abbrev main_while0b_v87 : Ref sig .tc := ⟨.hbm, 148, rfl⟩
abbrev main_while0b_cst_48 : Ref sig .tc := ⟨.hbm, 149, rfl⟩
abbrev main_while0b_v88 : Ref sig .tc := ⟨.hbm, 150, rfl⟩
abbrev main_while0b_v89 : Ref sig .tc := ⟨.hbm, 151, rfl⟩
abbrev main_while0b_v90 : Ref sig .tc := ⟨.hbm, 152, rfl⟩
abbrev main_while0b_v91 : Ref sig .tc := ⟨.hbm, 153, rfl⟩
abbrev main_while0b_v92 : Ref sig .tc := ⟨.hbm, 154, rfl⟩
abbrev main_while0b_v93 : Ref sig .tc := ⟨.hbm, 155, rfl⟩
abbrev main_while0b_cst_49 : Ref sig .tc := ⟨.hbm, 156, rfl⟩
abbrev main_while0b_v94 : Ref sig .tc := ⟨.hbm, 157, rfl⟩
abbrev main_while0b_v95 : Ref sig .tc := ⟨.hbm, 158, rfl⟩
abbrev main_while0b_cst_50 : Ref sig .tc := ⟨.hbm, 159, rfl⟩
abbrev main_while0b_v96 : Ref sig .tc := ⟨.hbm, 160, rfl⟩
abbrev main_while0b_v97 : Ref sig .tc := ⟨.hbm, 161, rfl⟩
abbrev main_while0b_v98 : Ref sig .tc := ⟨.hbm, 162, rfl⟩
abbrev main_while0b_v99 : Ref sig .tc := ⟨.hbm, 163, rfl⟩
abbrev main_while0b_c_51 : Ref sig .tc := ⟨.hbm, 164, rfl⟩
abbrev main_while0b_v100 : Ref sig .tc := ⟨.hbm, 165, rfl⟩
abbrev main_while0b_v101 : Ref sig .tc := ⟨.hbm, 166, rfl⟩
abbrev main_while0b_c_52 : Ref sig .tc := ⟨.hbm, 167, rfl⟩
abbrev main_while0b_v102 : Ref sig .tc := ⟨.hbm, 168, rfl⟩
abbrev main_while0b_v103 : Ref sig .tc := ⟨.hbm, 169, rfl⟩
abbrev main_while0b_c_53 : Ref sig .tc := ⟨.hbm, 170, rfl⟩
abbrev main_while0b_v104 : Ref sig .tc := ⟨.hbm, 171, rfl⟩
abbrev main_while0b_c_54 : Ref sig .tc := ⟨.hbm, 172, rfl⟩
abbrev main_while0b_v105 : Ref sig .tc := ⟨.hbm, 173, rfl⟩
abbrev main_while0b_c_55 : Ref sig .tc := ⟨.hbm, 174, rfl⟩
abbrev main_while0b_v106 : Ref sig .tc := ⟨.hbm, 175, rfl⟩
abbrev main_while0b_c_56 : Ref sig .tc := ⟨.hbm, 176, rfl⟩
abbrev main_while0b_v107 : Ref sig .tc := ⟨.hbm, 177, rfl⟩
abbrev main_while0b_v108 : Ref sig .tc := ⟨.hbm, 178, rfl⟩
abbrev main_while0b_v109 : Ref sig .tc := ⟨.hbm, 179, rfl⟩
abbrev main_while0b_c_57 : Ref sig .tc := ⟨.hbm, 180, rfl⟩
abbrev main_while0b_v110 : Ref sig .tc := ⟨.hbm, 181, rfl⟩
abbrev main_while0b_c_58 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_v114 : Ref sig .tc := ⟨.hbm, 186, rfl⟩
abbrev main_while0b_c_59 : Ref sig .tc := ⟨.hbm, 187, rfl⟩
abbrev main_while0b_c_60 : Ref sig .tc := ⟨.hbm, 188, rfl⟩
abbrev main_while0b_v115 : Ref sig .tc := ⟨.hbm, 189, rfl⟩
abbrev main_while0b_v116 : Ref sig .tc := ⟨.hbm, 190, rfl⟩
abbrev main_while0b_v117 : Ref sig .tc := ⟨.hbm, 191, rfl⟩
abbrev main_while0b_v118 : Ref sig .tc := ⟨.hbm, 192, rfl⟩
abbrev main_while0b_c_61 : Ref sig .tc := ⟨.hbm, 193, rfl⟩
abbrev main_while0b_v119 : Ref sig .tc := ⟨.hbm, 194, rfl⟩
abbrev main_while0b_v120 : Ref sig .tc := ⟨.hbm, 195, rfl⟩
abbrev main_while0b_c_62 : Ref sig .tc := ⟨.hbm, 196, rfl⟩
abbrev main_while0b_c_63 : Ref sig .tc := ⟨.hbm, 197, rfl⟩
abbrev main_while0b_v121 : Ref sig .tc := ⟨.hbm, 198, rfl⟩
abbrev main_while0b_v122 : Ref sig .tc := ⟨.hbm, 199, rfl⟩
abbrev main_while0b_v123 : Ref sig .tc := ⟨.hbm, 200, rfl⟩
abbrev main_while0b_v124 : Ref sig .tc := ⟨.hbm, 201, rfl⟩
abbrev main_while0b_v125 : Ref sig .tc := ⟨.hbm, 202, rfl⟩
abbrev main_while0b_c_64 : Ref sig .tc := ⟨.hbm, 203, rfl⟩
abbrev main_while0b_v126 : Ref sig .tc := ⟨.hbm, 204, rfl⟩
abbrev main_while0b_v127 : Ref sig .tc := ⟨.hbm, 205, rfl⟩
abbrev main_while0b_v128 : Ref sig .tc := ⟨.hbm, 206, rfl⟩
abbrev main_while0b_v129 : Ref sig .tc := ⟨.hbm, 207, rfl⟩
abbrev main_while0b_v130 : Ref sig .tc := ⟨.hbm, 208, rfl⟩
abbrev main_while0b_v131 : Ref sig .tc := ⟨.hbm, 209, rfl⟩
abbrev main_while0b_v132 : Ref sig .tc := ⟨.hbm, 210, rfl⟩
abbrev main_while0b_v133 : Ref sig .tc := ⟨.hbm, 211, rfl⟩
abbrev main_while0b_cst_65 : Ref sig .tc := ⟨.hbm, 212, rfl⟩
abbrev main_while0b_v134 : Ref sig .tc := ⟨.hbm, 213, rfl⟩
abbrev main_while0b_v135 : Ref sig .tc := ⟨.hbm, 214, rfl⟩
abbrev main_while0b_cst_66 : Ref sig .tc := ⟨.hbm, 215, rfl⟩
abbrev main_while0b_v136 : Ref sig .tc := ⟨.hbm, 216, rfl⟩
abbrev main_while0b_v137 : Ref sig .tc := ⟨.hbm, 217, rfl⟩
abbrev main_while0b_v138 : Ref sig .tc := ⟨.hbm, 218, rfl⟩
abbrev main_while0b_v139 : Ref sig .tc := ⟨.hbm, 219, rfl⟩
abbrev main_while0b_v140 : Ref sig .tc := ⟨.hbm, 220, rfl⟩
abbrev main_while0b_v141 : Ref sig .tc := ⟨.hbm, 221, rfl⟩
abbrev main_while0b_cst_67 : Ref sig .tc := ⟨.hbm, 222, rfl⟩
abbrev main_while0b_v142 : Ref sig .tc := ⟨.hbm, 223, rfl⟩
abbrev main_while0b_v143 : Ref sig .tc := ⟨.hbm, 224, rfl⟩
abbrev main_while0b_cst_68 : Ref sig .tc := ⟨.hbm, 225, rfl⟩
abbrev main_while0b_v144 : Ref sig .tc := ⟨.hbm, 226, rfl⟩
abbrev main_while0b_v145 : Ref sig .tc := ⟨.hbm, 227, rfl⟩
abbrev main_while0b_v146 : Ref sig .tc := ⟨.hbm, 228, rfl⟩
abbrev main_while0b_v147 : Ref sig .tc := ⟨.hbm, 229, rfl⟩
abbrev main_while0b_v148 : Ref sig .tc := ⟨.hbm, 230, rfl⟩
abbrev main_while0b_v149 : Ref sig .tc := ⟨.hbm, 231, rfl⟩
abbrev main_while0b_cst_69 : Ref sig .tc := ⟨.hbm, 232, rfl⟩
abbrev main_while0b_v150 : Ref sig .tc := ⟨.hbm, 233, rfl⟩
abbrev main_while0b_v151 : Ref sig .tc := ⟨.hbm, 234, rfl⟩
abbrev main_while0b_cst_70 : Ref sig .tc := ⟨.hbm, 235, rfl⟩
abbrev main_while0b_v152 : Ref sig .tc := ⟨.hbm, 236, rfl⟩
abbrev main_while0b_v153 : Ref sig .tc := ⟨.hbm, 237, rfl⟩
abbrev main_while0b_v154 : Ref sig .tc := ⟨.hbm, 238, rfl⟩
abbrev main_while0b_v155 : Ref sig .tc := ⟨.hbm, 239, rfl⟩
abbrev main_while0b_v156 : Ref sig .tc := ⟨.hbm, 240, rfl⟩
abbrev main_while0b_c_71 : Ref sig .tc := ⟨.hbm, 241, rfl⟩
abbrev main_while0b_v157 : Ref sig .tc := ⟨.hbm, 242, rfl⟩
abbrev main_while0b_c_72 : Ref sig .tc := ⟨.hbm, 243, rfl⟩
abbrev main_while0b_v158 : Ref sig .tc := ⟨.hbm, 244, rfl⟩
abbrev main_while0b_v159 : Ref sig .tc := ⟨.hbm, 245, rfl⟩
abbrev main_while0b_c_73 : Ref sig .tc := ⟨.hbm, 246, rfl⟩
abbrev main_while0b_v160 : Ref sig .tc := ⟨.hbm, 247, rfl⟩
abbrev main_while0b_c_74 : Ref sig .tc := ⟨.hbm, 248, rfl⟩
abbrev main_while0b_v161 : Ref sig .tc := ⟨.hbm, 249, rfl⟩
abbrev main_while0b_c_75 : Ref sig .tc := ⟨.hbm, 250, rfl⟩
abbrev main_while0b_v162 : Ref sig .tc := ⟨.hbm, 251, rfl⟩
abbrev main_while0b_c_76 : Ref sig .tc := ⟨.hbm, 252, rfl⟩
abbrev main_while0b_v163 : Ref sig .tc := ⟨.hbm, 253, rfl⟩
abbrev main_while0b_c_77 : Ref sig .tc := ⟨.hbm, 254, rfl⟩
abbrev main_while0b_v164 : Ref sig .tc := ⟨.hbm, 255, rfl⟩
abbrev main_v5 : Ref sig .tc := ⟨.hbm, 256, rfl⟩
abbrev main_v6 : Ref sig .tc := ⟨.hbm, 257, rfl⟩

abbrev nD : Nat := 1
abbrev τ : Topo := Topo.v7x

variable {F : FTy → Type} [FloatOps F]

abbrev main_while0_count : Scf.Loop 32 := ⟨0#32, 20000#32, 1#32⟩
-- ==== Proof.Tree.lean ====
/- The mathematics of the problem over the extended reals, with no program in sight: the cells of a two-direction tree LSTM on
   the complete binary tree of 10000 nodes in heap order, and the array of one layer. Rows and columns are natural numbers. -/
module

public import Idealize.ShloMosaic.Lib.Pointwise
public import Mathlib.Algebra.BigOperators.Group.Finset.Basic

@[expose] public section

noncomputable section

namespace Cert.Tree

open Idealize.ShloMosaic
open Finset (range)

/-- The weights of one layer: `Wx`, `Wl`, `Wr` with biases `bx`, `bl`, `br` of the leaves-to-root direction (320 outputs),
    `Vx`, `Vh` with biases `ax`, `ah` of the root-to-leaves direction (256 outputs). A matrix is read (output, input). -/
structure Weights where
  Wx : ℕ → ℕ → EReal
  bx : ℕ → EReal
  Wl : ℕ → ℕ → EReal
  bl : ℕ → EReal
  Wr : ℕ → ℕ → EReal
  br : ℕ → EReal
  Vx : ℕ → ℕ → EReal
  ax : ℕ → EReal
  Vh : ℕ → ℕ → EReal
  ah : ℕ → EReal

/-- The state of a node: the cell state and the hidden state. -/
structure Cell where
  c : ℕ → EReal
  h : ℕ → EReal

/-- The state of a node that is not there. -/
def Cell.none : Cell := ⟨fun _ => 0, fun _ => 0⟩

/-- The gates of a node in the leaves-to-root direction, `ml` and `mr` saying whether it has its two children. -/
def gateF (P : Weights) (x : ℕ → EReal) (L R : Cell) (ml mr : EReal) (o : ℕ) : EReal :=
  ((∑ k ∈ range 128, x k * P.Wx o k) + P.bx o + ml * ((∑ k ∈ range 64, L.h k * P.Wl o k) + P.bl o))
    + mr * ((∑ k ∈ range 64, R.h k * P.Wr o k) + P.br o)

/-- A node's new cell state from its gates and its children's. -/
def newC (g : ℕ → EReal) (lc rc : ℕ → EReal) (q : ℕ) : EReal :=
  Ideal.logistic (g q) * Ideal.tanh (g (256 + q)) + Ideal.logistic (g (128 + q)) * lc q
    + Ideal.logistic (g (192 + q)) * rc q

/-- A node's new hidden state from its gates and its new cell state. -/
def newH (g : ℕ → EReal) (c : ℕ → EReal) (q : ℕ) : EReal := Ideal.logistic (g (64 + q)) * Ideal.tanh (c q)

/-- The state of a node in the leaves-to-root direction. -/
def cellF (P : Weights) (x : ℕ → EReal) (L R : Cell) (ml mr : EReal) : Cell :=
  ⟨newC (gateF P x L R ml mr) L.c R.c, newH (gateF P x L R ml mr) (newC (gateF P x L R ml mr) L.c R.c)⟩

/-- The gates of a node in the root-to-leaves direction, from its parent's state. -/
def gateB (P : Weights) (x : ℕ → EReal) (Q : Cell) (o : ℕ) : EReal :=
  (∑ k ∈ range 128, x k * P.Vx o k) + P.ax o + (∑ k ∈ range 64, Q.h k * P.Vh o k) + P.ah o

/-- The cell state of a node in the root-to-leaves direction, from its gates and its parent's. -/
def newCB (g : ℕ → EReal) (pc : ℕ → EReal) (q : ℕ) : EReal :=
  Ideal.logistic (g q) * Ideal.tanh (g (192 + q)) + Ideal.logistic (g (128 + q)) * pc q

/-- The state of a node in the root-to-leaves direction. -/
def cellB (P : Weights) (x : ℕ → EReal) (Q : Cell) : Cell :=
  ⟨newCB (gateB P x Q) Q.c, newH (gateB P x Q) (newCB (gateB P x Q) Q.c)⟩

/-- The state of node `v`, leaves to root, of the layer with weights `P` on the input `X`. -/
def treeF (P : Weights) (X : ℕ → ℕ → EReal) (v : ℕ) : Cell :=
  if 2 * v + 2 < 10000 then cellF P (X v) (treeF P X (2 * v + 1)) (treeF P X (2 * v + 2)) 1 1
  else if 2 * v + 1 < 10000 then cellF P (X v) (treeF P X (2 * v + 1)) Cell.none 1 0
  else cellF P (X v) Cell.none Cell.none 0 0
termination_by 10000 - v

/-- The state of node `v`, root to leaves: node `v`'s parent is `(v - 1) / 2`. -/
def treeB (P : Weights) (X : ℕ → ℕ → EReal) (v : ℕ) : Cell :=
  if v = 0 then cellB P (X 0) Cell.none else cellB P (X v) (treeB P X ((v - 1) / 2))
termination_by v

/-- The output of one layer: the hidden states of the two directions side by side. -/
def layer (P : Weights) (X : ℕ → ℕ → EReal) (v q : ℕ) : EReal :=
  if q < 64 then (treeF P X v).h q else (treeB P X v).h (q - 64)

/-- A node's state as one row of 128 numbers: the cell state, then the hidden state. -/
def Cell.row (s : Cell) (q : ℕ) : EReal := if q < 64 then s.c q else s.h (q - 64)

theorem Cell.row_lt (s : Cell) {q : ℕ} (h : q < 64) : s.row q = s.c q := if_pos h
theorem Cell.row_ge (s : Cell) (q : ℕ) : s.row (64 + q) = s.h q := by
  unfold Cell.row; rw [if_neg (by omega), Nat.add_sub_cancel_left]

/-- The kernels write the logistic function as `½·tanh(½·v) + ½`: the same, on all extended reals. -/
theorem logistic_eq_tanh (v : EReal) :
    ((1 / 2 : ℝ) : EReal) * Ideal.tanh (((1 / 2 : ℝ) : EReal) * v) + ((1 / 2 : ℝ) : EReal) = Ideal.logistic v := by
  induction v using EReal.rec with
  | bot =>
    rw [EReal.coe_mul_bot_of_pos (by norm_num)]
    simp only [Ideal.tanh_bot, Ideal.logistic_bot]
    rw [← EReal.coe_one, ← EReal.coe_neg, ← EReal.coe_mul, ← EReal.coe_add]; norm_num
  | top =>
    rw [EReal.coe_mul_top_of_pos (by norm_num)]
    simp only [Ideal.tanh_top, Ideal.logistic_top]
    rw [← EReal.coe_one, ← EReal.coe_mul, ← EReal.coe_add]; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have hp : 0 < Real.exp (1 / 2 * r) := Real.exp_pos _
    have e : Real.exp (-r) = Real.exp (-(1 / 2 * r)) * Real.exp (-(1 / 2 * r)) := by rw [← Real.exp_add]; ring_nf
    have i : Real.exp (-(1 / 2 * r)) = (Real.exp (1 / 2 * r))⁻¹ := Real.exp_neg _
    rw [e, i]
    field_simp
    ring

end Cert.Tree

end
-- ==== Proof.Blocks.lean ====
/- What one level of the kernel computes, for a level of any number `m` of nodes: the vectors that the kernel forms from the
   rows it loads, as functions of those rows, and what they are at an index, in the terms of `Tree.lean`. -/
module

public import proofs.«01_k».proof.Proof.Tree
public import Idealize.ShloMosaic.Lib.ValueIdxCoords
public import Idealize.ShloMosaic.Lib.MatmulPlain

@[expose] public section

noncomputable section

namespace Cert.Tree

open Idealize.ShloMosaic
open Finset (range)

/-- The shape of `a` rows of `b` numbers. -/
abbrev Sh (a b : ℕ) : Shape := ⟨2, ![a, b]⟩

/-- An array of `a` rows of `b` extended reals. -/
abbrev Arr (a b : ℕ) := FVec Ideal (Sh a b) .f32

variable {m : ℕ}

/-- Two indices of a matrix with the same coordinates are equal. -/
theorem ext2 {a b : ℕ} {i j : (Sh a b).Idx} (h0 : (i 0).val = (j 0).val) (h1 : (i 1).val = (j 1).val) : i = j := by
  funext d
  match d with
  | ⟨0, _⟩ => exact Fin.ext h0
  | ⟨1, _⟩ => exact Fin.ext h1

/-- Cutting columns `o … o + b` out of an array. -/
theorem slices (m : ℕ) {a o b : ℕ} (h : o + b ≤ a) : (Sh m a).Slices ![0, o] (Sh m b) := by
  refine ⟨rfl, fun i => ?_⟩
  match i with
  | ⟨0, _⟩ => show 0 + m ≤ m; omega
  | ⟨1, _⟩ => exact h

/-- Columns `o … o + b` of an array. -/
def cols {m a : ℕ} (o b : ℕ) (h : o + b ≤ a) (x : Arr m a) : Arr m b := extractStridedSlice (Sh m b) ![0, o] x (slices m h)

theorem cols_apply {m a : ℕ} (o b : ℕ) (h : o + b ≤ a) (x : Arr m a) (r : Fin m) (q : Fin b) :
    cols o b h x (ix2 r q) = x (ix2 r ⟨o + q, by omega⟩) := by
  unfold cols extractStridedSlice
  exact congrArg x (ext2 (Nat.zero_add _) rfl)

/-- Rows side by side. -/
theorem catenates (m : ℕ) (a b : ℕ) : Shape.Concatenates [Sh m a, Sh m b] (Sh m (a + b)) 1 := by
  refine ⟨by simp, ?_, by simp⟩
  intro s hs
  simp only [List.mem_cons, List.not_mem_nil, or_false] at hs
  rcases hs with rfl | rfl <;> refine ⟨rfl, fun b hb => ?_⟩ <;> match b, hb with
    | ⟨0, _⟩, _ => rfl
    | ⟨1, _⟩, hb => exact absurd rfl hb

def cat2 {m : ℕ} (a b : ℕ) (x : Arr m a) (y : Arr m b) : Arr m (a + b) :=
  concatenate (Sh m (a + b)) 1 [⟨Sh m a, x⟩, ⟨Sh m b, y⟩] (catenates m a b)

theorem cat2_left {a b : ℕ} (x : Arr m a) (y : Arr m b) (r : Fin m) (q : Fin (a + b)) (h : q.val < a) :
    cat2 a b x y (ix2 r q) = x (ix2 r ⟨q, h⟩) := by
  unfold cat2
  rw [concatenate_pair_apply]
  exact (dif_pos h).trans (congrArg x (ext2 rfl rfl))

theorem cat2_right {a b : ℕ} (x : Arr m a) (y : Arr m b) (r : Fin m) (q : Fin (a + b)) (h : ¬ q.val < a) :
    cat2 a b x y (ix2 r q) = y (ix2 r ⟨q - a, by omega⟩) := by
  unfold cat2
  rw [concatenate_pair_apply]
  exact (dif_neg h).trans (congrArg y (ext2 rfl rfl))

def cat3 {m : ℕ} (x y z : Arr m 128) : Arr m 384 :=
  concatenate (Sh m 384) 1 [⟨Sh m 128, x⟩, ⟨Sh m 128, y⟩, ⟨Sh m 128, z⟩] (by
    refine ⟨by simp, ?_, by simp⟩
    intro s hs
    simp only [List.mem_cons, List.not_mem_nil, or_false, or_self, List.map_cons, List.map_nil] at hs
    subst hs
    refine ⟨rfl, fun b hb => ?_⟩
    match b, hb with
    | ⟨0, _⟩, _ => rfl
    | ⟨1, _⟩, hb => exact absurd rfl hb)

theorem cat3_apply (x y z : Arr m 128) (r : Fin m) (q : Fin 384) :
    cat3 x y z (ix2 r q) = if h : q.val < 128 then x (ix2 r ⟨q, h⟩) else
      if h2 : q.val - 128 < 128 then y (ix2 r ⟨q - 128, h2⟩) else z (ix2 r ⟨q - 128 - 128, by omega⟩) := by
  unfold cat3
  pointwise
  split
  · exact congrArg x (ext2 rfl rfl)
  · split
    · exact congrArg y (ext2 rfl rfl)
    · exact congrArg z (ext2 rfl rfl)

/-- The product of `m` rows of `K` numbers with a matrix, as the kernel forms it: from a zero accumulator. -/
def prod {m : ℕ} (K N : ℕ) (x : Arr m K) (w : Arr K N) : Arr m N :=
  matmul (DotDims.plain m K N) none x w (constant (Sh m N) .f32 0x00000000#32)

theorem prod_apply {K N : ℕ} (x : Arr m K) (w : Arr K N) (r : Fin m) (o : Fin N) :
    prod K N x w (ix2 r o) = ∑ k : Fin K, x (ix2 r k) * w (ix2 k o) := by
  unfold prod
  refine (Ideal.matmul_plain_apply none x w _ r o).trans ?_
  show Ideal.ofBits .f32 0x00000000#32 + _ = _
  rw [Ideal.ofBits_zero_f32, zero_add]
  rfl

theorem bcast (m N : ℕ) : (Sh 1 N).Broadcasts (Sh m N) := by
  refine ⟨le_refl _, fun a => ?_⟩
  match a with
  | ⟨0, _⟩ => exact Or.inl rfl
  | ⟨1, _⟩ => exact Or.inr fun _ => rfl

/-- A row repeated `m` times. -/
def rows (m : ℕ) {N : ℕ} (b : Arr 1 N) : Arr m N := broadcastTo (Sh m N) b (bcast m N)

theorem rows_apply {N : ℕ} (b : Arr 1 N) (r : Fin m) (o : Fin N) : rows m b (ix2 r o) = b (ix2 0 o) := by
  unfold rows
  rw [Pointwise.broadcastTo_apply]
  refine congrArg b (ext2 ?_ ?_)
  · simp only [Shape.Idx.norm_def]
    exact congrArg Fin.val (dif_pos rfl)
  · simp only [Shape.Idx.norm_def]
    split
    · have h : N = 1 := by assumption
      have := o.isLt
      simp only [ix2_1]; omega
    · rfl

theorem half_val : Ideal.ofBits .f32 0x3F000000#32 = ((1 / 2 : ℝ) : EReal) := by
  simp [Ideal.ofBits, Ideal.ieee, -EReal.coe_mul]
  norm_num

/-- The kernel's logistic function. -/
def sig {m N : ℕ} (v : Arr m N) : Arr m N :=
  addf (mulf (broadcast (Sh m N) (Scalar.ofBits .f32 0x3F000000#32 : Ideal .f32))
    (tanh (mulf (broadcast (Sh m N) (Scalar.ofBits .f32 0x3F000000#32 : Ideal .f32)) v)))
    (broadcast (Sh m N) (Scalar.ofBits .f32 0x3F000000#32 : Ideal .f32))

theorem sig_apply {m N : ℕ} (v : Arr m N) (i : (Sh m N).Idx) : sig v i = Ideal.logistic (v i) := by
  show Ideal.ofBits .f32 0x3F000000#32 * Ideal.tanh (Ideal.ofBits .f32 0x3F000000#32 * v i) + Ideal.ofBits .f32 0x3F000000#32 = _
  rw [half_val, logistic_eq_tanh]

/-! ### The vectors of a level -/

/-- Gates of nodes with two children. -/
def gBoth (x l r : Arr m 128) (W : Arr 384 384) (b : Arr m 384) : Arr m 384 := addf (prod 384 384 (cat3 x l r) W) b

/-- Gates of nodes with a left child only. -/
def gLeft (x l : Arr m 128) (W : Arr 256 384) (b : Arr m 384) : Arr m 384 :=
  addf (prod 256 384 (cat2 128 128 x l) W) b

/-- Gates from a node's own row alone: `N` of them. -/
def gOwn {N : ℕ} (x : Arr m 128) (W : Arr 128 N) (b : Arr m N) : Arr m N := addf (prod 128 N x W) b

/-- Input gate times candidate, the candidate in columns `o … o + 64`. -/
def iu {N : ℕ} (o : ℕ) (ho : o + 64 ≤ N) (h1 : 0 + 128 ≤ N) (g : Arr m N) : Arr m 64 :=
  mulf (cols 0 64 (by omega) (sig (cols 0 128 h1 g))) (tanh (cols o 64 ho g))

/-- The hidden state from the gates and the new cell state. -/
def hOf {N : ℕ} (h1 : 0 + 128 ≤ N) (g : Arr m N) (c : Arr m 64) : Arr m 64 :=
  mulf (cols 64 64 (by omega) (sig (cols 0 128 h1 g))) (tanh c)

/-- Forget gates times the children's cell states, side by side. -/
def fc (g : Arr m 384) (l r : Arr m 128) : Arr m 128 :=
  mulf (sig (cols 128 128 (by omega) g)) (cat2 64 64 (cols 0 64 (by omega) l) (cols 0 64 (by omega) r))

def cBoth (g : Arr m 384) (l r : Arr m 128) : Arr m 64 :=
  addf (addf (iu 256 (by omega) (by omega) g) (cols 0 64 (by omega) (fc g l r))) (cols 64 64 (by omega) (fc g l r))

def cLeft (g : Arr m 384) (l : Arr m 128) : Arr m 64 :=
  addf (iu 256 (by omega) (by omega) g)
    (mulf (cols 0 64 (by omega) (sig (cols 128 128 (by omega) g))) (cols 0 64 (by omega) l))

/-- A constant array of halves. -/
def halves (m N : ℕ) : Arr m N := broadcast (Sh m N) (Scalar.ofBits .f32 0x3F000000#32 : Ideal .f32)

/-- `tanh` of half the forget gate and of the candidate, side by side. -/
def tB (g : Arr m 256) : Arr m 128 :=
  tanh (cat2 64 64 (mulf (halves m 64) (cols 128 64 (by omega) g)) (cols 192 64 (by omega) g))

def cB (g : Arr m 256) (pc : Arr m 64) : Arr m 64 :=
  addf (mulf (cols 0 64 (by omega) (sig (cols 0 128 (by omega) g))) (cols 64 64 (by omega) (tB g)))
    (mulf (addf (mulf (halves m 64) (cols 0 64 (by omega) (tB g))) (halves m 64)) pc)

/-! ### Their values -/

/-- `x` holds the numbers `f`. -/
def Holds {a b : ℕ} (x : Arr a b) (f : ℕ → ℕ → EReal) : Prop := ∀ (r : Fin a) (q : Fin b), x (ix2 r q) = f r q

theorem Holds.cols {a b : ℕ} {x : Arr a b} {f : ℕ → ℕ → EReal} (hx : Holds x f) {o n : ℕ} (h : o + n ≤ b) :
    Holds (cols o n h x) (fun r q => f r (o + q)) := fun r q => by rw [cols_apply, hx]

theorem Holds.sig {a b : ℕ} {x : Arr a b} {f : ℕ → ℕ → EReal} (hx : Holds x f) :
    Holds (sig x) (fun r q => Ideal.logistic (f r q)) := fun r q => by rw [sig_apply, hx]

theorem Holds.tanh {a b : ℕ} {x : Arr a b} {f : ℕ → ℕ → EReal} (hx : Holds x f) :
    Holds (tanh x) (fun r q => Ideal.tanh (f r q)) := fun r q => congrArg Ideal.tanh (hx r q)

theorem Holds.mul {a b : ℕ} {x y : Arr a b} {f g : ℕ → ℕ → EReal} (hx : Holds x f) (hy : Holds y g) :
    Holds (mulf x y) (fun r q => f r q * g r q) := fun r q => congrArg₂ (· * ·) (hx r q) (hy r q)

theorem Holds.add {a b : ℕ} {x y : Arr a b} {f g : ℕ → ℕ → EReal} (hx : Holds x f) (hy : Holds y g) :
    Holds (addf x y) (fun r q => f r q + g r q) := fun r q => congrArg₂ (· + ·) (hx r q) (hy r q)

theorem Holds.rows {N : ℕ} {b : Arr 1 N} {f : ℕ → ℕ → EReal} (hb : Holds b f) (m : ℕ) :
    Holds (rows m b) (fun _ q => f 0 q) := fun r q => by rw [rows_apply, hb]; rfl

theorem Holds.cat2 {a b : ℕ} {x : Arr m a} {y : Arr m b} {f g : ℕ → ℕ → EReal} (hx : Holds x f) (hy : Holds y g) :
    Holds (cat2 a b x y) (fun r q => if q < a then f r q else g r (q - a)) := fun r q => by
  by_cases h : q.val < a
  · rw [cat2_left x y r q h, hx]; exact (if_pos h).symm
  · rw [cat2_right x y r q h, hy]; exact (if_neg h).symm

theorem Holds.cat3 {x y z : Arr m 128} {f g k : ℕ → ℕ → EReal} (hx : Holds x f) (hy : Holds y g) (hz : Holds z k) :
    Holds (cat3 x y z) (fun r q => if q < 128 then f r q else if q - 128 < 128 then g r (q - 128) else k r (q - 128 - 128)) :=
  fun r q => by
    rw [cat3_apply]
    by_cases h : q.val < 128
    · rw [dif_pos h, hx]; exact (if_pos h).symm
    · rw [dif_neg h]
      refine Eq.trans ?_ (if_neg h).symm
      by_cases h' : q.val - 128 < 128
      · rw [dif_pos h', hy]; exact (if_pos h').symm
      · rw [dif_neg h', hz]; exact (if_neg h').symm

theorem Holds.prod {K N : ℕ} {x : Arr m K} {w : Arr K N} {f g : ℕ → ℕ → EReal} (hx : Holds x f) (hw : Holds w g) :
    Holds (prod K N x w) (fun r o => ∑ k ∈ range K, f r k * g k o) := fun r o => by
  rw [prod_apply]
  exact (Finset.sum_congr rfl fun k _ => by rw [hx, hw]).trans (Finset.sum_range fun k => f r k * g k o).symm

theorem Holds.halves (m N : ℕ) : Holds (halves m N) (fun _ _ => ((1 / 2 : ℝ) : EReal)) := fun _ _ => half_val

theorem Holds.of_eq {a b : ℕ} {x : Arr a b} {f g : ℕ → ℕ → EReal} (hx : Holds x f) (h : ∀ r < a, ∀ q < b, f r q = g r q) :
    Holds x g := fun r q => (hx r q).trans (h r r.isLt q q.isLt)

/-- `w` is the matrix of the leaves-to-root direction as the kernel stacks it: rows `0 … 128` for the node's own input, and
    for each child 64 rows of zeros (under its cell state) and 64 rows for its hidden state. -/
structure IsWall (P : Weights) (w : ℕ → ℕ → EReal) : Prop where
  own : ∀ k < 128, ∀ o < 320, w k o = P.Wx o k
  zl : ∀ k < 64, ∀ o < 320, w (128 + k) o = 0
  left : ∀ k < 64, ∀ o < 320, w (192 + k) o = P.Wl o k
  zr : ∀ k < 64, ∀ o < 320, w (256 + k) o = 0
  right : ∀ k < 64, ∀ o < 320, w (320 + k) o = P.Wr o k

theorem sum_row (s : Cell) (w : ℕ → EReal) (hz : ∀ k < 64, w k = 0) :
    ∑ k ∈ range 128, s.row k * w k = ∑ k ∈ range 64, s.h k * w (64 + k) := by
  rw [show (128 : ℕ) = 64 + 64 from rfl, Finset.sum_range_add, Finset.sum_eq_zero, zero_add]
  · exact Finset.sum_congr rfl fun k _ => by rw [Cell.row_ge]
  · intro k hk
    rw [hz k (Finset.mem_range.mp hk), mul_zero]

theorem gate_both {P : Weights} {w f : ℕ → ℕ → EReal} {b : ℕ → EReal} {L R : ℕ → Cell} {x l r : Arr m 128} {W : Arr 384 384}
    {B : Arr m 384} (hx : Holds x f) (hl : Holds l fun i => (L i).row) (hr : Holds r fun i => (R i).row) (hW : Holds W w)
    (hB : Holds B fun _ => b) (hw : IsWall P w) (hb : ∀ o < 320, b o = P.bx o + P.bl o + P.br o) :
    Holds (cols 0 320 (by omega) (gBoth x l r W B)) (fun i o => gateF P (f i) (L i) (R i) 1 1 o) := by
  refine ((((hx.cat3 hl hr).prod hW).add hB).cols (by omega)).of_eq fun i _ o ho => ?_
  simp only [Nat.zero_add]
  rw [show (384 : ℕ) = 128 + (128 + 128) from rfl, Finset.sum_range_add, Finset.sum_range_add, hb o ho]
  have e1 : ∑ k ∈ range 128, (if k < 128 then f i k else if k - 128 < 128 then (L i).row (k - 128) else (R i).row (k - 128 - 128)) * w k o
      = ∑ k ∈ range 128, f i k * P.Wx o k := Finset.sum_congr rfl fun k hk => by
    have := Finset.mem_range.mp hk
    rw [if_pos this, hw.own k this o ho]
  have e2 : ∑ k ∈ range 128, (if 128 + k < 128 then f i (128 + k) else if 128 + k - 128 < 128 then (L i).row (128 + k - 128) else (R i).row (128 + k - 128 - 128)) * w (128 + k) o
      = ∑ k ∈ range 64, (L i).h k * P.Wl o k := by
    refine (Finset.sum_congr rfl fun k hk => ?_).trans ((sum_row (L i) (fun k => w (128 + k) o) fun k hk => hw.zl k hk o ho).trans ?_)
    · have := Finset.mem_range.mp hk
      rw [if_neg (by omega), if_pos (by omega), Nat.add_sub_cancel_left]
    · exact Finset.sum_congr rfl fun k hk => by
        rw [← Nat.add_assoc, hw.left k (Finset.mem_range.mp hk) o ho]
  have e3 : ∑ k ∈ range 128, (if 128 + (128 + k) < 128 then f i (128 + (128 + k)) else if 128 + (128 + k) - 128 < 128 then (L i).row (128 + (128 + k) - 128) else (R i).row (128 + (128 + k) - 128 - 128)) * w (128 + (128 + k)) o
      = ∑ k ∈ range 64, (R i).h k * P.Wr o k := by
    refine (Finset.sum_congr rfl fun k hk => ?_).trans ((sum_row (R i) (fun k => w (256 + k) o) fun k hk => hw.zr k hk o ho).trans ?_)
    · have := Finset.mem_range.mp hk
      rw [if_neg (by omega), if_neg (by omega), Nat.add_sub_cancel_left, Nat.add_sub_cancel_left, ← Nat.add_assoc]
    · exact Finset.sum_congr rfl fun k hk => by
        rw [← Nat.add_assoc, hw.right k (Finset.mem_range.mp hk) o ho]
  rw [e1, e2, e3, gateF, one_mul, one_mul]
  abel

theorem gate_left {P : Weights} {w f : ℕ → ℕ → EReal} {b : ℕ → EReal} {L : ℕ → Cell} {x l : Arr m 128} {W : Arr 256 384}
    {B : Arr m 384} (hx : Holds x f) (hl : Holds l fun i => (L i).row) (hW : Holds W w)
    (hB : Holds B fun _ => b) (hw : IsWall P w) (hb : ∀ o < 320, b o = P.bx o + P.bl o) :
    Holds (cols 0 320 (by omega) (gLeft x l W B)) (fun i o => gateF P (f i) (L i) Cell.none 1 0 o) := by
  refine ((((hx.cat2 hl).prod hW).add hB).cols (by omega)).of_eq fun i _ o ho => ?_
  simp only [Nat.zero_add]
  rw [show range 256 = range (128 + 128) from rfl, Finset.sum_range_add, hb o ho]
  have e1 : ∑ k ∈ range 128, (if k < 128 then f i k else (L i).row (k - 128)) * w k o
      = ∑ k ∈ range 128, f i k * P.Wx o k := Finset.sum_congr rfl fun k hk => by
    have := Finset.mem_range.mp hk
    rw [if_pos this, hw.own k this o ho]
  have e2 : ∑ k ∈ range 128, (if 128 + k < 128 then f i (128 + k) else (L i).row (128 + k - 128)) * w (128 + k) o
      = ∑ k ∈ range 64, (L i).h k * P.Wl o k := by
    refine (Finset.sum_congr rfl fun k hk => ?_).trans ((sum_row (L i) (fun k => w (128 + k) o) fun k hk => hw.zl k hk o ho).trans ?_)
    · rw [if_neg (by omega), Nat.add_sub_cancel_left]
    · exact Finset.sum_congr rfl fun k hk => by
        rw [← Nat.add_assoc, hw.left k (Finset.mem_range.mp hk) o ho]
  rw [e1, e2, gateF, one_mul, zero_mul, add_zero]
  abel

theorem gate_none {P : Weights} {w f : ℕ → ℕ → EReal} {b : ℕ → EReal} {x : Arr m 128} {W : Arr 128 384}
    {B : Arr m 384} (hx : Holds x f) (hW : Holds W w) (hB : Holds B fun _ => b) (hw : IsWall P w) (hb : ∀ o < 320, b o = P.bx o) :
    Holds (cols 0 320 (by omega) (gOwn x W B)) (fun i o => gateF P (f i) Cell.none Cell.none 0 0 o) := by
  refine (((hx.prod hW).add hB).cols (by omega)).of_eq fun i _ o ho => ?_
  simp only [Nat.zero_add]
  rw [hb o ho, gateF, zero_mul, zero_mul, add_zero, add_zero]
  exact congrArg (· + P.bx o) (Finset.sum_congr rfl fun k hk => by rw [hw.own k (Finset.mem_range.mp hk) o ho])

/-- Gates that hold `G` on their first 320 columns, read at columns `o … o + n`. -/
theorem Holds.sub {N M : ℕ} {g : Arr m N} {G : ℕ → ℕ → EReal} {hM : 0 + M ≤ N} (hg : Holds (Tree.cols 0 M hM g) G) {o n : ℕ}
    (ho : o + n ≤ N) (h : o + n ≤ M) : Holds (Tree.cols o n ho g) (fun r q => G r (o + q)) := fun r q => by
  have h1 := hg r ⟨o + q, by omega⟩
  rw [cols_apply] at h1 ⊢
  refine Eq.trans ?_ h1
  exact congrArg g (ext2 rfl (by simp))

theorem h_holds {N M : ℕ} {g : Arr m N} {G C : ℕ → ℕ → EReal} {c : Arr m 64} {hM : 0 + M ≤ N} (hg : Holds (Tree.cols 0 M hM g) G)
    (h : 128 ≤ M) (hc : Holds c C) : Holds (hOf (by omega) g c) (fun r q => newH (G r) (C r) q) := by
  refine ((((hg.sub (o := 0) (n := 128) (by omega) (by omega)).sig.cols (o := 64) (n := 64) (by omega)).mul hc.tanh)).of_eq fun r _ q _ => ?_
  simp only [Nat.zero_add]
  rfl

theorem iu_holds {N M o : ℕ} {g : Arr m N} {G : ℕ → ℕ → EReal} {hM : 0 + M ≤ N} (hg : Holds (Tree.cols 0 M hM g) G)
    (h : 128 ≤ M) (ho : o + 64 ≤ M) :
    Holds (iu o (by omega) (by omega) g) (fun r q => Ideal.logistic (G r q) * Ideal.tanh (G r (o + q))) := by
  refine ((((hg.sub (o := 0) (n := 128) (by omega) (by omega)).sig.cols (o := 0) (n := 64) (by omega)).mul
    (hg.sub (o := o) (n := 64) (by omega) (by omega)).tanh)).of_eq fun r _ q _ => ?_
  simp only [Nat.zero_add]

theorem row_cols {L : ℕ → Cell} {l : Arr m 128} (hl : Holds l fun i => (L i).row) :
    Holds (Tree.cols 0 64 (by omega) l) (fun i q => (L i).c q) :=
  (hl.cols (by omega)).of_eq fun i _ q hq => by rw [Nat.zero_add, Cell.row_lt _ hq]

theorem c_both {g : Arr m 384} {G : ℕ → ℕ → EReal} {L R : ℕ → Cell} {l r : Arr m 128}
    (hg : Holds (Tree.cols 0 320 (by omega) g) G) (hl : Holds l fun i => (L i).row) (hr : Holds r fun i => (R i).row) :
    Holds (cBoth g l r) (fun i q => newC (G i) (L i).c (R i).c q) := by
  have hf := (hg.sub (o := 128) (n := 128) (by omega) (by omega)).sig.mul ((row_cols hl).cat2 (row_cols hr))
  refine (((iu_holds hg (by omega) (by omega)).add (hf.cols (o := 0) (n := 64) (by omega))).add
    (hf.cols (o := 64) (n := 64) (by omega))).of_eq fun i _ q hq => ?_
  simp only [Nat.zero_add, if_pos hq]
  rw [if_neg (by omega), Nat.add_sub_cancel_left, ← Nat.add_assoc]
  rfl

theorem c_left {g : Arr m 384} {G : ℕ → ℕ → EReal} {L : ℕ → Cell} {l : Arr m 128}
    (hg : Holds (Tree.cols 0 320 (by omega) g) G) (hl : Holds l fun i => (L i).row) :
    Holds (cLeft g l) (fun i q => newC (G i) (L i).c Cell.none.c q) := by
  refine ((iu_holds hg (by omega) (by omega)).add
    (((hg.sub (o := 128) (n := 128) (by omega) (by omega)).sig.cols (o := 0) (n := 64) (by omega)).mul (row_cols hl))).of_eq fun i _ q hq => ?_
  simp only [Nat.zero_add]
  rw [newC, show Cell.none.c q = 0 from rfl, mul_zero, add_zero]

theorem c_none {g : Arr m 384} {G : ℕ → ℕ → EReal} (hg : Holds (Tree.cols 0 320 (by omega) g) G) :
    Holds (iu 256 (by omega) (by omega) g) (fun i q => newC (G i) Cell.none.c Cell.none.c q) :=
  (iu_holds hg (by omega) (by omega)).of_eq fun i _ q hq => by
    rw [newC, show Cell.none.c q = 0 from rfl, mul_zero, mul_zero, add_zero, add_zero]

theorem row_holds {c h : Arr m 64} {S : ℕ → Cell} (hc : Holds c fun i => (S i).c) (hh : Holds h fun i => (S i).h) :
    Holds (cat2 64 64 c h) (fun i => (S i).row) := hc.cat2 hh

/-- The new states of nodes with two children: the row that the kernel keeps, and the hidden state that it puts out. -/
theorem both {P : Weights} {w f : ℕ → ℕ → EReal} {b : ℕ → EReal} {L R : ℕ → Cell} {x l r : Arr m 128} {W : Arr 384 384}
    {B : Arr m 384} (hx : Holds x f) (hl : Holds l fun i => (L i).row) (hr : Holds r fun i => (R i).row) (hW : Holds W w)
    (hB : Holds B fun _ => b) (hw : IsWall P w) (hb : ∀ o < 320, b o = P.bx o + P.bl o + P.br o) :
    Holds (cBoth (gBoth x l r W B) l r) (fun i => (cellF P (f i) (L i) (R i) 1 1).c)
      ∧ Holds (hOf (by omega) (gBoth x l r W B) (cBoth (gBoth x l r W B) l r)) (fun i => (cellF P (f i) (L i) (R i) 1 1).h) :=
  have hg := gate_both hx hl hr hW hB hw hb
  ⟨c_both hg hl hr, h_holds hg (by omega) (c_both hg hl hr)⟩

theorem left {P : Weights} {w f : ℕ → ℕ → EReal} {b : ℕ → EReal} {L : ℕ → Cell} {x l : Arr m 128} {W : Arr 256 384}
    {B : Arr m 384} (hx : Holds x f) (hl : Holds l fun i => (L i).row) (hW : Holds W w)
    (hB : Holds B fun _ => b) (hw : IsWall P w) (hb : ∀ o < 320, b o = P.bx o + P.bl o) :
    Holds (cLeft (gLeft x l W B) l) (fun i => (cellF P (f i) (L i) Cell.none 1 0).c)
      ∧ Holds (hOf (by omega) (gLeft x l W B) (cLeft (gLeft x l W B) l)) (fun i => (cellF P (f i) (L i) Cell.none 1 0).h) :=
  have hg := gate_left hx hl hW hB hw hb
  ⟨c_left hg hl, h_holds hg (by omega) (c_left hg hl)⟩

theorem leaf {P : Weights} {w f : ℕ → ℕ → EReal} {b : ℕ → EReal} {x : Arr m 128} {W : Arr 128 384}
    {B : Arr m 384} (hx : Holds x f) (hW : Holds W w) (hB : Holds B fun _ => b) (hw : IsWall P w) (hb : ∀ o < 320, b o = P.bx o) :
    Holds (iu 256 (by omega) (by omega) (gOwn x W B)) (fun i => (cellF P (f i) Cell.none Cell.none 0 0).c)
      ∧ Holds (hOf (by omega) (gOwn x W B) (iu 256 (by omega) (by omega) (gOwn x W B)))
        (fun i => (cellF P (f i) Cell.none Cell.none 0 0).h) :=
  have hg := gate_none hx hW hB hw hb
  ⟨c_none hg, h_holds hg (by omega) (c_none hg)⟩

/-- `wx`, `wh`, `b` are the matrices and the bias of the root-to-leaves direction as the kernel takes them: 64 rows of zeros
    under the parent's cell state, 64 rows for its hidden state, and the two biases added. -/
structure IsDown (P : Weights) (wx wh : ℕ → ℕ → EReal) (b : ℕ → EReal) : Prop where
  own : ∀ k < 128, ∀ o < 256, wx k o = P.Vx o k
  z : ∀ k < 64, ∀ o < 256, wh k o = 0
  parent : ∀ k < 64, ∀ o < 256, wh (64 + k) o = P.Vh o k
  bias : ∀ o < 256, b o = P.ax o + P.ah o

/-- The parents' part of the gates. -/
theorem parent_gate {P : Weights} {wx wh : ℕ → ℕ → EReal} {b : ℕ → EReal} (hd : IsDown P wx wh b) {Q : ℕ → Cell} {p : Arr m 128}
    {W : Arr 128 256} {B : Arr m 256} (hp : Holds p fun i => (Q i).row) (hW : Holds W wh) (hB : Holds B fun _ => b) :
    Holds (gOwn p W B) (fun i o => (∑ k ∈ range 64, (Q i).h k * P.Vh o k) + (P.ax o + P.ah o)) := by
  refine ((hp.prod hW).add hB).of_eq fun i _ o ho => ?_
  rw [hd.bias o ho, sum_row (Q i) (fun k => wh k o) fun k hk => hd.z k hk o ho]
  exact congrArg (· + (P.ax o + P.ah o)) (Finset.sum_congr rfl fun k hk => by rw [hd.parent k (Finset.mem_range.mp hk) o ho])

theorem c_down {g : Arr m 256} {G : ℕ → ℕ → EReal} {C : ℕ → ℕ → EReal} {p : Arr m 64} (hg : Holds g G) (hp : Holds p C) :
    Holds (cB g p) (fun i q => newCB (G i) (C i) q) := by
  have ht : Holds (tB g) _ := (((Holds.halves m 64).mul (hg.cols (o := 128) (n := 64) (by omega))).cat2
    (hg.cols (o := 192) (n := 64) (by omega))).tanh
  refine ((((hg.cols (o := 0) (n := 128) (by omega)).sig.cols (o := 0) (n := 64) (by omega)).mul
    (ht.cols (o := 64) (n := 64) (by omega))).add
    ((((Holds.halves m 64).mul (ht.cols (o := 0) (n := 64) (by omega))).add (Holds.halves m 64)).mul hp)).of_eq fun i _ q hq => ?_
  simp only [Nat.zero_add, if_pos hq]
  rw [if_neg (by omega), Nat.add_sub_cancel_left, logistic_eq_tanh]
  rfl

/-- The new states of the nodes of a level, root to leaves, from the level above. -/
theorem down {P : Weights} {wx wh f : ℕ → ℕ → EReal} {b : ℕ → EReal} (hd : IsDown P wx wh b) {Q : ℕ → Cell} {x : Arr m 128} {pc : Arr m 64}
    {pg : Arr m 256} {W : Arr 128 256} (hx : Holds x f) (hW : Holds W wx) (hp : Holds pc fun i => (Q i).c)
    (hpg : Holds pg (fun i o => (∑ k ∈ range 64, (Q i).h k * P.Vh o k) + (P.ax o + P.ah o))) :
    Holds (cB (addf (prod 128 256 x W) pg) pc) (fun i => (cellB P (f i) (Q i)).c)
      ∧ Holds (hOf (by omega) (addf (prod 128 256 x W) pg) (cB (addf (prod 128 256 x W) pg) pc))
        (fun i => (cellB P (f i) (Q i)).h) := by
  have hg : Holds (addf (prod 128 256 x W) pg) (fun i o => gateB P (f i) (Q i) o) :=
    ((hx.prod hW).add hpg).of_eq fun i _ o ho => by
      rw [gateB, Finset.sum_congr rfl fun k hk => by rw [hd.own k (Finset.mem_range.mp hk) o ho]]
      abel
  have hg' : Holds (Tree.cols 0 256 (by omega) (addf (prod 128 256 x W) pg)) (fun i o => gateB P (f i) (Q i) o) :=
    (hg.cols (o := 0) (n := 256) (by omega)).of_eq fun i _ o _ => by rw [Nat.zero_add]
  exact ⟨c_down hg hp, h_holds hg' (by omega) (c_down hg hp)⟩

/-- The new state of the root, root to leaves. -/
theorem root {P : Weights} {wx wh f : ℕ → ℕ → EReal} {b : ℕ → EReal} (hd : IsDown P wx wh b) {x : Arr m 128} {W : Arr 128 256} {B : Arr m 256}
    (hx : Holds x f) (hW : Holds W wx) (hB : Holds B fun _ => b) :
    Holds (iu 192 (by omega) (by omega) (gOwn x W B)) (fun i => (cellB P (f i) Cell.none).c)
      ∧ Holds (hOf (by omega) (gOwn x W B) (iu 192 (by omega) (by omega) (gOwn x W B)))
        (fun i => (cellB P (f i) Cell.none).h) := by
  have hg : Holds (Tree.cols 0 256 (by omega) (gOwn x W B)) (fun i o => gateB P (f i) Cell.none o) :=
    (((hx.prod hW).add hB).cols (by omega)).of_eq fun i _ o ho => by
      rw [gateB, Nat.zero_add, hd.bias o ho, Finset.sum_congr rfl fun k hk => by rw [hd.own k (Finset.mem_range.mp hk) o ho],
        Finset.sum_eq_zero (s := range 64) fun k _ => by rw [show Cell.none.h k = 0 from rfl, zero_mul]]
      abel
  have hc : Holds (iu 192 (by omega) (by omega) (gOwn x W B)) (fun i => (cellB P (f i) Cell.none).c) :=
    (iu_holds hg (by omega) (by omega)).of_eq fun i _ q _ => by
      show _ = newCB _ _ q
      rw [newCB, show Cell.none.c q = 0 from rfl, mul_zero, add_zero]
  exact ⟨hc, h_holds hg (by omega) hc⟩

end Cert.Tree

end
-- ==== Proof.Fill.lean ====
/- An array written piece by piece: which part of it the writes have filled with given numbers, and what a load of rows reads. -/
module

public import proofs.«01_k».proof.Proof.Blocks
public import Idealize.ShloMosaic.Lib.Pipeline.FrameBody

@[expose] public section

noncomputable section

namespace Cert.Tree

open Idealize.ShloMosaic

/-- The shape of the arrays that hold one row per node. -/
abbrev SN : Shape := Sh 10000 128

/-- Writes into an array of one row per node, last first. -/
abbrev Writes := List (View.Piece (Elt Ideal) SN .f32)

/-- At row `i` and column `j` with `A i j` the writes `L` leave `G i j`. -/
def Fill (L : Writes) (A : ℕ → ℕ → Prop) (G : ℕ → ℕ → EReal) : Prop :=
  ∀ y : SN.Idx, A (y 0) (y 1) → View.canon L y = G (y 0) (y 1)

theorem Fill.none (L : Writes) (G : ℕ → ℕ → EReal) : Fill L (fun _ _ => False) G := fun _ h => h.elim

theorem Fill.mono {L : Writes} {A A' : ℕ → ℕ → Prop} {G : ℕ → ℕ → EReal} (h : Fill L A G)
    (hA : ∀ i < 10000, ∀ j < 128, A' i j → A i j) : Fill L A' G := fun y hy => h y (hA _ (y 0).isLt _ (y 1).isLt hy)

theorem holds_at {n w : ℕ} {x : Arr n w} {f : ℕ → ℕ → EReal} (hx : Holds x f) (j : (Sh n w).Idx) : x j = f (j 0) (j 1) :=
  (congrArg x (ext2 (i := j) (j := ix2 (j 0) (j 1)) rfl rfl)).trans (hx (j 0) (j 1))

/-- One more write, of a rectangle of consecutive rows. -/
theorem Fill.unit {L : Writes} {A : ℕ → ℕ → Prop} {G : ℕ → ℕ → EReal} (h : Fill L A G) {s o n w : ℕ}
    (inb : ∀ a : Fin 2, (![s, o] : Fin 2 → ℕ) a + (![n, w] : Fin 2 → ℕ) a ≤ SN.size a)
    {v : Arr n w} (hv : Holds v fun r q => G (s + r) (o + q)) :
    Fill (⟨Rect.unit (s := SN) ![s, o] ![n, w] inb, v⟩ :: L)
      (fun i j => A i j ∨ (s ≤ i ∧ i < s + n ∧ o ≤ j ∧ j < o + w)) G := by
  intro y hy
  by_cases hm : y ∈ (Rect.unit (s := SN) ![s, o] ![n, w] inb).set
  · obtain ⟨x, rfl⟩ := LoadRect.exists_idx_of_mem _ hm
    refine (View.canon_cons_emb (Rect.unit (s := SN) ![s, o] ![n, w] inb) v L x).trans ((holds_at hv x).trans ?_)
    have e0 : (((Rect.unit (s := SN) ![s, o] ![n, w] inb).emb x 0 : Fin _) : ℕ) = s + x 0 := congrArg (s + ·) (Nat.one_mul _)
    have e1 : (((Rect.unit (s := SN) ![s, o] ![n, w] inb).emb x 1 : Fin _) : ℕ) = o + x 1 := congrArg (o + ·) (Nat.one_mul _)
    exact (congrArg₂ G e0 e1).symm
  · refine (View.canon_cons_of_not_mem ⟨Rect.unit (s := SN) ![s, o] ![n, w] inb, v⟩ L hm).trans (h y (hy.resolve_right fun hr => hm ?_))
    rw [Rect.mem_set_unit]
    intro a
    match a with
    | ⟨0, _⟩ => exact ⟨hr.1, hr.2.1⟩
    | ⟨1, _⟩ => exact ⟨hr.2.2.1, hr.2.2.2⟩

/-- `n` rows, every other one from row `s` on. -/
abbrev other (s n : ℕ) (inb : ∀ a : Fin 2, (![n, 128] : Fin 2 → ℕ) a = 0
      ∨ (![s, 0] : Fin 2 → ℕ) a + (![2, 1] : Fin 2 → ℕ) a * ((![n, 128] : Fin 2 → ℕ) a - 1) < SN.size a)
    (pos : ∀ a : Fin 2, 0 < (![2, 1] : Fin 2 → ℕ) a) : Rect SN :=
  { off := ![s, 0], size := ![n, 128], stride := ![2, 1], inb := inb, stride_pos := pos }

/-- One more write, of every other row. -/
theorem Fill.strided {L : Writes} {A : ℕ → ℕ → Prop} {G : ℕ → ℕ → EReal} (h : Fill L A G) {s n : ℕ}
    (inb : ∀ a : Fin 2, (![n, 128] : Fin 2 → ℕ) a = 0
      ∨ (![s, 0] : Fin 2 → ℕ) a + (![2, 1] : Fin 2 → ℕ) a * ((![n, 128] : Fin 2 → ℕ) a - 1) < SN.size a)
    (pos : ∀ a : Fin 2, 0 < (![2, 1] : Fin 2 → ℕ) a) {v : Arr n 128} (hv : Holds v fun r q => G (s + 2 * r) q) :
    Fill (⟨other s n inb pos, v⟩ :: L)
      (fun i j => A i j ∨ ∃ r < n, i = s + 2 * r) G := by
  intro y hy
  by_cases hm : y ∈ (other s n inb pos).set
  · obtain ⟨x, rfl⟩ := LoadRect.exists_idx_of_mem _ hm
    refine (View.canon_cons_emb (other s n inb pos) v L x).trans
      ((holds_at hv x).trans ?_)
    have e1 : (((other s n inb pos).emb x 1 : Fin _) : ℕ) = x 1 :=
      (Nat.zero_add _).trans (Nat.one_mul _)
    exact (congrArg₂ G rfl e1).symm
  · refine (View.canon_cons_of_not_mem
      ⟨other s n inb pos, v⟩ L hm).trans (h y ?_)
    cases hy with
    | inl h1 => exact h1
    | inr h2 =>
      refine absurd ((LoadRect.mem_set _).mpr ?_) hm
      intro a
      match a with
      | ⟨0, _⟩ => exact h2
      | ⟨1, _⟩ => exact ⟨y 1, (y 1).isLt, ((Nat.zero_add _).trans (Nat.one_mul _)).symm⟩

/-- A load of consecutive rows reads what the writes have left there. -/
theorem Fill.load {sig : RefSig} {κ : Kind} {sp : Space} {L : Writes} {A : ℕ → ℕ → Prop} {G : ℕ → ℕ → EReal} (h : Fill L A G)
    (v : View sig κ sp SN .f32) {s o n w : ℕ}
    (inb : ∀ a : Fin 2, (![s, o] : Fin 2 → ℕ) a + (![n, w] : Fin 2 → ℕ) a ≤ SN.size a)
    (hA : ∀ r < n, ∀ q < w, A (s + r) (o + q)) :
    Holds (a := n) (b := w) (v.readCov L (Rect.unit (s := SN) ![s, o] ![n, w] inb).toLoadRect) (fun r q => G (s + r) (o + q)) := by
  intro r q
  have e0 : (((Rect.unit (s := SN) ![s, o] ![n, w] inb).toLoadRect.idx (ix2 r q) 0 : Fin _) : ℕ) = s + r := congrArg (s + ·) (Nat.one_mul _)
  have e1 : (((Rect.unit (s := SN) ![s, o] ![n, w] inb).toLoadRect.idx (ix2 r q) 1 : Fin _) : ℕ) = o + q := congrArg (o + ·) (Nat.one_mul _)
  rw [View.readCov_eq_canon']
  refine (h _ ?_).trans (congrArg₂ G e0 e1)
  rw [e0, e1]
  exact hA r r.isLt q q.isLt

/-- A load of every other row. -/
theorem Fill.load_strided {sig : RefSig} {κ : Kind} {sp : Space} {L : Writes} {A : ℕ → ℕ → Prop} {G : ℕ → ℕ → EReal} (h : Fill L A G)
    (v : View sig κ sp SN .f32) {s n : ℕ}
    (inb : ∀ a : Fin 2, (![n, 128] : Fin 2 → ℕ) a = 0
      ∨ (![s, 0] : Fin 2 → ℕ) a + (![2, 1] : Fin 2 → ℕ) a * ((![n, 128] : Fin 2 → ℕ) a - 1) < SN.size a)
    (hA : ∀ r < n, ∀ q < 128, A (s + 2 * r) q) :
    Holds (a := n) (b := 128) (v.readCov L { off := ![s, 0], size := ![n, 128], stride := ![2, 1], inb := inb }) (fun r q => G (s + 2 * r) q) := by
  intro r q
  rw [View.readCov_eq_canon']
  have e1 : ((({ off := ![s, 0], size := ![n, 128], stride := ![2, 1], inb := inb } : LoadRect SN).idx (ix2 r q) 1 : Fin _) : ℕ) = q :=
    (Nat.zero_add _).trans (Nat.one_mul _)
  refine (h _ ?_).trans (congrArg₂ G rfl e1)
  rw [e1]
  exact hA r r.isLt q q.isLt

end Cert.Tree

end
-- ==== Proof.Steps.lean ====
/- One level of the kernel: what its rows hold once they are written, from what the rows it loads hold. -/
module

public import proofs.«01_k».proof.Proof.Fill

@[expose] public section

noncomputable section

namespace Cert.Tree

open Idealize.ShloMosaic
open Finset (range)

variable {m : ℕ}

/-! ### What is written -/

/-- A row of cell state and hidden state, as it is written. -/
def keep (c h : Arr m 64) : Arr m 128 := shapeCast (Sh m 128) (cat2 64 64 c h) rfl

/-- A hidden state, as it is written. -/
def put (h : Arr m 64) : Arr m 64 := shapeCast (Sh m 64) h rfl

theorem shapeCast_same {a b : ℕ} (x : Arr a b) (h : (Sh a b).ShapeCasts (Sh a b)) : shapeCast (Sh a b) x h = x := by
  funext i
  rw [Pointwise.shapeCast_apply]
  simp

def bothC (x l r : Arr m 128) (W : Arr 384 384) (b : Arr m 384) : Arr m 64 := cBoth (gBoth x l r W b) l r
def bothH (x l r : Arr m 128) (W : Arr 384 384) (b : Arr m 384) : Arr m 64 :=
  hOf (by omega) (gBoth x l r W b) (bothC x l r W b)
def leftC (x l : Arr m 128) (W : Arr 256 384) (b : Arr m 384) : Arr m 64 := cLeft (gLeft x l W b) l
def leftH (x l : Arr m 128) (W : Arr 256 384) (b : Arr m 384) : Arr m 64 :=
  hOf (by omega) (gLeft x l W b) (leftC x l W b)
/-- The cell state from the node's own row alone, the candidate in columns `o … o + 64` of the gates. -/
def ownC {N : ℕ} (o : ℕ) (ho : o + 64 ≤ N) (h1 : 0 + 128 ≤ N) (x : Arr m 128) (W : Arr 128 N) (b : Arr m N) : Arr m 64 :=
  iu o ho h1 (gOwn x W b)
def ownH {N : ℕ} (o : ℕ) (ho : o + 64 ≤ N) (h1 : 0 + 128 ≤ N) (x : Arr m 128) (W : Arr 128 N) (b : Arr m N) : Arr m 64 :=
  hOf h1 (gOwn x W b) (ownC o ho h1 x W b)
def downC (x : Arr m 128) (pc : Arr m 64) (pg : Arr m 256) (W : Arr 128 256) : Arr m 64 := cB (addf (prod 128 256 x W) pg) pc
def downH (x : Arr m 128) (pc : Arr m 64) (pg : Arr m 256) (W : Arr 128 256) : Arr m 64 :=
  hOf (by omega) (addf (prod 128 256 x W) pg) (downC x pc pg W)

theorem Holds.put {h : Arr m 64} {f : ℕ → ℕ → EReal} (hh : Holds h f) : Holds (put h) f := by
  unfold Tree.put; rwa [shapeCast_same]

theorem Holds.bare {h : Arr m 64} {f : ℕ → ℕ → EReal} (hh : Holds (Tree.put h) f) : Holds h f := by
  unfold Tree.put at hh; rwa [shapeCast_same] at hh

theorem Holds.keep {c h : Arr m 64} {S : ℕ → Cell} (hc : Holds c fun i => (S i).c) (hh : Holds h fun i => (S i).h) :
    Holds (keep c h) (fun i => (S i).row) := by
  unfold Tree.keep
  rw [shapeCast_same (Tree.cat2 64 64 c h) rfl]
  exact row_holds hc hh

/-- The bias row repeated. -/
theorem Holds.rowsOf {N : ℕ} {b : Arr 1 N} {f : ℕ → EReal} (hb : Holds b fun _ => f) (n : ℕ) :
    Holds (Tree.rows n b) (fun _ => f) := hb.rows n

/-! ### What a level is given -/

/-- `inp` loads rows of the array `X`. -/
structure Rows (inp : (B : LoadRect SN) → B.shape.Idx → EReal) (X : ℕ → ℕ → EReal) : Prop where
  unit : ∀ (s n : ℕ) (inb : ∀ a : Fin 2, (![s, 0] : Fin 2 → ℕ) a + (![n, 128] : Fin 2 → ℕ) a ≤ SN.size a),
    Holds (a := n) (b := 128) (inp (Rect.unit (s := SN) ![s, 0] ![n, 128] inb).toLoadRect) (fun r q => X (s + r) q)
  other : ∀ (s n : ℕ) (inb : ∀ a : Fin 2, (![n, 128] : Fin 2 → ℕ) a = 0
      ∨ (![s, 0] : Fin 2 → ℕ) a + (![2, 1] : Fin 2 → ℕ) a * ((![n, 128] : Fin 2 → ℕ) a - 1) < SN.size a),
    Holds (a := n) (b := 128) (inp { off := ![s, 0], size := ![n, 128], stride := ![2, 1], inb := inb }) (fun r q => X (s + 2 * r) q)

/-- The matrices and biases of one layer with weights `P`, as the kernel loads them. -/
structure Mats (P : Weights) (W3 : Arr 384 384) (W2 : Arr 256 384) (W1 : Arr 128 384) (b0 b1 b2 : Arr 1 384)
    (Vx Vh : Arr 128 256) (bd : Arr 1 256) where
  w : ℕ → ℕ → EReal
  wx : ℕ → ℕ → EReal
  wh : ℕ → ℕ → EReal
  d : ℕ → EReal
  wall : IsWall P w
  down : IsDown P wx wh d
  h3 : Holds W3 w
  h2 : Holds W2 w
  h1 : Holds W1 w
  e0 : ℕ → EReal
  e1 : ℕ → EReal
  e2 : ℕ → EReal
  hb0 : Holds b0 fun _ => e0
  hb1 : Holds b1 fun _ => e1
  hb2 : Holds b2 fun _ => e2
  he0 : ∀ o < 320, e0 o = P.bx o
  he1 : ∀ o < 320, e1 o = P.bx o + P.bl o
  he2 : ∀ o < 320, e2 o = P.bx o + P.bl o + P.br o
  hx : Holds Vx wx
  hh : Holds Vh wh
  hd : Holds bd fun _ => d

section
variable {P : Weights} {X : ℕ → ℕ → EReal} {inp : (B : LoadRect SN) → B.shape.Idx → EReal}
  {W3 : Arr 384 384} {W2 : Arr 256 384} {W1 : Arr 128 384} {b0 b1 b2 : Arr 1 384} {Vx Vh : Arr 128 256} {bd : Arr 1 256}
  {sig : RefSig} {κ : Kind} {sp : Space} {L : Writes} {A : ℕ → ℕ → Prop}

/-- The rows the kernel keeps of the leaves-to-root direction, -/
def up (P : Weights) (X : ℕ → ℕ → EReal) (v : ℕ) : ℕ → EReal := (treeF P X v).row
/-- and of the root-to-leaves direction. -/
def dn (P : Weights) (X : ℕ → ℕ → EReal) (v : ℕ) : ℕ → EReal := (treeB P X v).row

/-- The rows `s … s + n` are written with the states of the nodes there. -/
theorem Fill.rows {S : ℕ → Cell} (hL : Fill L A fun v => (S v).row) {s n : ℕ}
    (inb : ∀ a : Fin 2, (![s, 0] : Fin 2 → ℕ) a + (![n, 128] : Fin 2 → ℕ) a ≤ SN.size a)
    {c h : Arr n 64} (hc : Holds c fun i => (S (s + i)).c) (hh : Holds h fun i => (S (s + i)).h) :
    Fill (⟨Rect.unit (s := SN) ![s, 0] ![n, 128] inb, keep c h⟩ :: L) (fun i j => A i j ∨ (s ≤ i ∧ i < s + n)) fun v => (S v).row :=
  (hL.unit inb ((Holds.keep (S := fun i => S (s + i)) hc hh).of_eq fun r _ q _ => by rw [Nat.zero_add])).mono fun i _ j hj h =>
    h.imp id fun h => ⟨h.1, h.2, Nat.zero_le _, by omega⟩

theorem up_leaf {v : ℕ} (h : ¬ 2 * v + 1 < 10000) : treeF P X v = cellF P (X v) Cell.none Cell.none 0 0 := by
  rw [treeF, if_neg (by omega), if_neg h]

theorem up_left {v : ℕ} (h : 2 * v + 1 < 10000) (h' : ¬ 2 * v + 2 < 10000) :
    treeF P X v = cellF P (X v) (treeF P X (2 * v + 1)) Cell.none 1 0 := by
  rw [treeF, if_neg h', if_pos h]

theorem up_both {v : ℕ} (h : 2 * v + 2 < 10000) :
    treeF P X v = cellF P (X v) (treeF P X (2 * v + 1)) (treeF P X (2 * v + 2)) 1 1 := by
  rw [treeF, if_pos h]

theorem Holds.cell {x : Arr m 64} {S T : ℕ → Cell} {p : Cell → ℕ → EReal} (hx : Holds x fun i => p (S i)) (h : ∀ i < m, S i = T i) :
    Holds x fun i => p (T i) := hx.of_eq fun i hi _ _ => by rw [h i hi]

/-- A level of nodes with two children. -/
theorem upBoth (hin : Rows inp X) (M : Mats P W3 W2 W1 b0 b1 b2 Vx Vh bd) (hL : Fill L A (up P X)) (v : View sig κ sp SN .f32)
    {s sl sr n : ℕ} (hl : sl = 2 * s + 1) (hr : sr = 2 * s + 2) (hn : 2 * (s + n) < 10000)
    (hA : ∀ i q, 2 * s + 1 ≤ i → i < 2 * (s + n) + 1 → A i q)
    (inb : ∀ a : Fin 2, (![s, 0] : Fin 2 → ℕ) a + (![n, 128] : Fin 2 → ℕ) a ≤ SN.size a)
    (il : ∀ a : Fin 2, (![n, 128] : Fin 2 → ℕ) a = 0
      ∨ (![sl, 0] : Fin 2 → ℕ) a + (![2, 1] : Fin 2 → ℕ) a * ((![n, 128] : Fin 2 → ℕ) a - 1) < SN.size a)
    (ir : ∀ a : Fin 2, (![n, 128] : Fin 2 → ℕ) a = 0
      ∨ (![sr, 0] : Fin 2 → ℕ) a + (![2, 1] : Fin 2 → ℕ) a * ((![n, 128] : Fin 2 → ℕ) a - 1) < SN.size a)
    {B : Arr n 384} (hB : Holds B fun _ => M.e2) :
    Fill (⟨Rect.unit (s := SN) ![s, 0] ![n, 128] inb,
        keep (bothC (inp (Rect.unit (s := SN) ![s, 0] ![n, 128] inb).toLoadRect)
            (v.readCov L { off := ![sl, 0], size := ![n, 128], stride := ![2, 1], inb := il })
            (v.readCov L { off := ![sr, 0], size := ![n, 128], stride := ![2, 1], inb := ir }) W3 B)
          (bothH (inp (Rect.unit (s := SN) ![s, 0] ![n, 128] inb).toLoadRect)
            (v.readCov L { off := ![sl, 0], size := ![n, 128], stride := ![2, 1], inb := il })
            (v.readCov L { off := ![sr, 0], size := ![n, 128], stride := ![2, 1], inb := ir }) W3 B)⟩ :: L)
      (fun i j => A i j ∨ (s ≤ i ∧ i < s + n)) (up P X)
    ∧ Holds (put (bothH (inp (Rect.unit (s := SN) ![s, 0] ![n, 128] inb).toLoadRect)
            (v.readCov L { off := ![sl, 0], size := ![n, 128], stride := ![2, 1], inb := il })
            (v.readCov L { off := ![sr, 0], size := ![n, 128], stride := ![2, 1], inb := ir }) W3 B))
        fun i => (treeF P X (s + i)).h := by
  subst hl hr
  have l := hL.load_strided v il fun r hr q _ => hA _ q (by omega) (by omega)
  have r := hL.load_strided v ir fun r hr q _ => hA _ q (by omega) (by omega)
  have H := both (L := fun i => treeF P X (2 * s + 1 + 2 * i)) (R := fun i => treeF P X (2 * s + 2 + 2 * i))
    (hin.unit s n inb) l r M.h3 hB M.wall M.he2
  have e : ∀ i < n, cellF P (X (s + i)) (treeF P X (2 * s + 1 + 2 * i)) (treeF P X (2 * s + 2 + 2 * i)) 1 1 = treeF P X (s + i) :=
    fun i hi => by
      rw [up_both (v := s + i) (by omega), show 2 * (s + i) + 1 = 2 * s + 1 + 2 * i by omega,
        show 2 * (s + i) + 2 = 2 * s + 2 + 2 * i by omega]
  exact ⟨hL.rows (S := treeF P X) inb (H.1.cell (p := Cell.c) e) (H.2.cell (p := Cell.h) e), (H.2.cell (p := Cell.h) e).put⟩

/-- A whole level of the tree: below it everything is written, and afterwards the level too. -/
theorem upLevel (hin : Rows inp X) (M : Mats P W3 W2 W1 b0 b1 b2 Vx Vh bd) {s sl sr n : ℕ} (hL : Fill L (fun i _ => sl ≤ i) (up P X))
    (v : View sig κ sp SN .f32) (hl : sl = 2 * s + 1) (hr : sr = 2 * s + 2) (hs : n = s + 1) (hn : s < 2500)
    (inb : ∀ a : Fin 2, (![s, 0] : Fin 2 → ℕ) a + (![n, 128] : Fin 2 → ℕ) a ≤ SN.size a)
    (il : ∀ a : Fin 2, (![n, 128] : Fin 2 → ℕ) a = 0
      ∨ (![sl, 0] : Fin 2 → ℕ) a + (![2, 1] : Fin 2 → ℕ) a * ((![n, 128] : Fin 2 → ℕ) a - 1) < SN.size a)
    (ir : ∀ a : Fin 2, (![n, 128] : Fin 2 → ℕ) a = 0
      ∨ (![sr, 0] : Fin 2 → ℕ) a + (![2, 1] : Fin 2 → ℕ) a * ((![n, 128] : Fin 2 → ℕ) a - 1) < SN.size a)
    {B : Arr n 384} (hB : Holds B fun _ => M.e2) :
    Fill (⟨Rect.unit (s := SN) ![s, 0] ![n, 128] inb,
        keep (bothC (inp (Rect.unit (s := SN) ![s, 0] ![n, 128] inb).toLoadRect)
            (v.readCov L { off := ![sl, 0], size := ![n, 128], stride := ![2, 1], inb := il })
            (v.readCov L { off := ![sr, 0], size := ![n, 128], stride := ![2, 1], inb := ir }) W3 B)
          (bothH (inp (Rect.unit (s := SN) ![s, 0] ![n, 128] inb).toLoadRect)
            (v.readCov L { off := ![sl, 0], size := ![n, 128], stride := ![2, 1], inb := il })
            (v.readCov L { off := ![sr, 0], size := ![n, 128], stride := ![2, 1], inb := ir }) W3 B)⟩ :: L)
      (fun i _ => s ≤ i) (up P X)
    ∧ Holds (put (bothH (inp (Rect.unit (s := SN) ![s, 0] ![n, 128] inb).toLoadRect)
            (v.readCov L { off := ![sl, 0], size := ![n, 128], stride := ![2, 1], inb := il })
            (v.readCov L { off := ![sr, 0], size := ![n, 128], stride := ![2, 1], inb := ir }) W3 B))
        fun i => (treeF P X (s + i)).h :=
  have h := upBoth hin M hL v hl hr (by omega) (fun i _ h _ => hl ▸ h) inb il ir hB
  ⟨h.1.mono fun i _ _ _ h => by omega, h.2⟩

/-- The node with a left child only. -/
theorem upLeft (hin : Rows inp X) (M : Mats P W3 W2 W1 b0 b1 b2 Vx Vh bd) (hL : Fill L A (up P X)) (v : View sig κ sp SN .f32)
    {s sl n : ℕ} (hl : sl = 2 * s + 1) (hs : s = 4999) (hn : n = 1) (hA : ∀ q, A 9999 q)
    (inb : ∀ a : Fin 2, (![s, 0] : Fin 2 → ℕ) a + (![n, 128] : Fin 2 → ℕ) a ≤ SN.size a)
    (il : ∀ a : Fin 2, (![n, 128] : Fin 2 → ℕ) a = 0
      ∨ (![sl, 0] : Fin 2 → ℕ) a + (![2, 1] : Fin 2 → ℕ) a * ((![n, 128] : Fin 2 → ℕ) a - 1) < SN.size a)
    {B : Arr n 384} (hB : Holds B fun _ => M.e1) :
    Fill (⟨Rect.unit (s := SN) ![s, 0] ![n, 128] inb,
        keep (leftC (inp (Rect.unit (s := SN) ![s, 0] ![n, 128] inb).toLoadRect)
            (v.readCov L { off := ![sl, 0], size := ![n, 128], stride := ![2, 1], inb := il }) W2 B)
          (leftH (inp (Rect.unit (s := SN) ![s, 0] ![n, 128] inb).toLoadRect)
            (v.readCov L { off := ![sl, 0], size := ![n, 128], stride := ![2, 1], inb := il }) W2 B)⟩ :: L)
      (fun i j => A i j ∨ (s ≤ i ∧ i < s + n)) (up P X)
    ∧ Holds (put (leftH (inp (Rect.unit (s := SN) ![s, 0] ![n, 128] inb).toLoadRect)
            (v.readCov L { off := ![sl, 0], size := ![n, 128], stride := ![2, 1], inb := il }) W2 B))
        fun i => (treeF P X (s + i)).h := by
  have l := hL.load_strided v il fun r hr q _ => by
    have : sl + 2 * r = 9999 := by omega
    rw [this]; exact hA q
  have H := left (L := fun i => treeF P X (sl + 2 * i)) (hin.unit s n inb) l M.h2 hB M.wall M.he1
  have e : ∀ i < n, cellF P (X (s + i)) (treeF P X (sl + 2 * i)) Cell.none 1 0 = treeF P X (s + i) :=
    fun i hi => by
      rw [up_left (v := s + i) (by omega) (by omega), show 2 * (s + i) + 1 = sl + 2 * i by omega]
  exact ⟨hL.rows (S := treeF P X) inb (H.1.cell (p := Cell.c) e) (H.2.cell (p := Cell.h) e), (H.2.cell (p := Cell.h) e).put⟩

/-- Leaves. -/
theorem upLeaf (hin : Rows inp X) (M : Mats P W3 W2 W1 b0 b1 b2 Vx Vh bd) (hL : Fill L A (up P X))
    {s n : ℕ} (hs : 5000 ≤ s) (inb : ∀ a : Fin 2, (![s, 0] : Fin 2 → ℕ) a + (![n, 128] : Fin 2 → ℕ) a ≤ SN.size a)
    {B : Arr n 384} (hB : Holds B fun _ => M.e0) :
    Fill (⟨Rect.unit (s := SN) ![s, 0] ![n, 128] inb,
        keep (ownC 256 (by omega) (by omega) (inp (Rect.unit (s := SN) ![s, 0] ![n, 128] inb).toLoadRect) W1 B)
          (ownH 256 (by omega) (by omega) (inp (Rect.unit (s := SN) ![s, 0] ![n, 128] inb).toLoadRect) W1 B)⟩ :: L)
      (fun i j => A i j ∨ (s ≤ i ∧ i < s + n)) (up P X)
    ∧ Holds (put (ownH 256 (by omega) (by omega) (inp (Rect.unit (s := SN) ![s, 0] ![n, 128] inb).toLoadRect) W1 B))
        fun i => (treeF P X (s + i)).h := by
  have H := leaf (hin.unit s n inb) M.h1 hB M.wall M.he0
  have e : ∀ i < n, cellF P (X (s + i)) Cell.none Cell.none 0 0 = treeF P X (s + i) :=
    fun i hi => by rw [up_leaf (v := s + i) (by omega)]
  exact ⟨hL.rows (S := treeF P X) inb (H.1.cell (p := Cell.c) e) (H.2.cell (p := Cell.h) e), (H.2.cell (p := Cell.h) e).put⟩

/-- The root of the other direction. -/
theorem downRoot (hin : Rows inp X) (M : Mats P W3 W2 W1 b0 b1 b2 Vx Vh bd) (L : Writes)
    (inb : ∀ a : Fin 2, (![0, 0] : Fin 2 → ℕ) a + (![1, 128] : Fin 2 → ℕ) a ≤ SN.size a) :
    Fill (⟨Rect.unit (s := SN) ![0, 0] ![1, 128] inb,
        keep (ownC 192 (by omega) (by omega) (inp (Rect.unit (s := SN) ![0, 0] ![1, 128] inb).toLoadRect) Vx bd)
          (ownH 192 (by omega) (by omega) (inp (Rect.unit (s := SN) ![0, 0] ![1, 128] inb).toLoadRect) Vx bd)⟩ :: L)
      (fun i _ => i < 1) (dn P X) := by
  have H := root M.down (hin.unit 0 1 inb) M.hx M.hd
  have e : ∀ i < 1, cellB P (X (0 + i)) Cell.none = treeB P X (0 + i) :=
    fun i hi => by
      obtain rfl : i = 0 := by omega
      rw [treeB, if_pos rfl]
  exact ((Fill.none L _).rows (S := treeB P X) inb (H.1.cell (p := Cell.c) e) (H.2.cell (p := Cell.h) e)).mono
    fun i _ _ _ h => Or.inr ⟨Nat.zero_le _, by omega⟩

/-- What the parents in rows `p …` give to the gates of their children. -/
def fromParents (P : Weights) (X : ℕ → ℕ → EReal) (p i o : ℕ) : EReal :=
  (∑ k ∈ range 64, (treeB P X (p + i)).h k * P.Vh o k) + (P.ax o + P.ah o)

theorem parents (M : Mats P W3 W2 W1 b0 b1 b2 Vx Vh bd) (hL : Fill L A (dn P X)) (v : View sig κ sp SN .f32) {p n : ℕ}
    (inb : ∀ a : Fin 2, (![p, 0] : Fin 2 → ℕ) a + (![n, 128] : Fin 2 → ℕ) a ≤ SN.size a)
    (hA : ∀ i q, p ≤ i → i < p + n → A i q) {B : Arr n 256} (hB : Holds B fun _ => M.d) :
    Holds (gOwn (v.readCov L (Rect.unit (s := SN) ![p, 0] ![n, 128] inb).toLoadRect) Vh B) (fromParents P X p)
      ∧ Holds (cols 0 64 (by omega) (v.readCov L (Rect.unit (s := SN) ![p, 0] ![n, 128] inb).toLoadRect : Arr n 128))
        fun i => (treeB P X (p + i)).c := by
  have h : Holds (a := n) (b := 128) (v.readCov L (Rect.unit (s := SN) ![p, 0] ![n, 128] inb).toLoadRect) fun i => (treeB P X (p + i)).row :=
    (hL.load v inb fun r hr q _ => hA _ _ (by omega) (by omega)).of_eq fun r _ q _ => by rw [Nat.zero_add]; rfl
  exact ⟨parent_gate M.down h M.hh hB, row_cols h⟩

/-- Every other node from row `s` on, of a level. -/
theorem downOther (hin : Rows inp X) (M : Mats P W3 W2 W1 b0 b1 b2 Vx Vh bd) (hL : Fill L A (dn P X)) {s p n : ℕ}
    (hs : s = 2 * p + 1 ∨ s = 2 * p + 2)
    (inb : ∀ a : Fin 2, (![n, 128] : Fin 2 → ℕ) a = 0
      ∨ (![s, 0] : Fin 2 → ℕ) a + (![2, 1] : Fin 2 → ℕ) a * ((![n, 128] : Fin 2 → ℕ) a - 1) < SN.size a)
    (pos : ∀ a : Fin 2, 0 < (![2, 1] : Fin 2 → ℕ) a) {pc : Arr n 64} {pg : Arr n 256}
    (hpg : Holds pg (fromParents P X p)) (hpc : Holds pc fun i => (treeB P X (p + i)).c) :
    Fill (⟨{ off := ![s, 0], size := ![n, 128], stride := ![2, 1], inb := inb, stride_pos := pos },
        keep (downC (inp { off := ![s, 0], size := ![n, 128], stride := ![2, 1], inb := inb }) pc pg Vx)
          (downH (inp { off := ![s, 0], size := ![n, 128], stride := ![2, 1], inb := inb }) pc pg Vx)⟩ :: L)
      (fun i j => A i j ∨ ∃ r < n, i = s + 2 * r) (dn P X) := by
  have H := Tree.down (Q := fun i => treeB P X (p + i)) M.down (hin.other s n inb) M.hx hpc hpg
  have e : ∀ i < n, cellB P (X (s + 2 * i)) (treeB P X (p + i)) = treeB P X (s + 2 * i) := fun i hi => by
    conv_rhs => rw [treeB]
    rw [if_neg (by omega), show (s + 2 * i - 1) / 2 = p + i by omega]
  exact hL.strided inb pos (Holds.keep (S := fun i => treeB P X (s + 2 * i)) (H.1.cell (p := Cell.c) e) (H.2.cell (p := Cell.h) e))

/-- A whole level: the nodes at odd places, then those at even ones. -/
theorem downLevel (hin : Rows inp X) (M : Mats P W3 W2 W1 b0 b1 b2 Vx Vh bd) {p s s' n n' : ℕ} (hL : Fill L (fun i _ => i < s) (dn P X))
    (hs : s = 2 * p + 1) (hs' : s' = 2 * p + 2) (hn : n' ≤ n) (hn' : n ≤ n' + 1)
    (inb : ∀ a : Fin 2, (![n, 128] : Fin 2 → ℕ) a = 0
      ∨ (![s, 0] : Fin 2 → ℕ) a + (![2, 1] : Fin 2 → ℕ) a * ((![n, 128] : Fin 2 → ℕ) a - 1) < SN.size a)
    (inb' : ∀ a : Fin 2, (![n', 128] : Fin 2 → ℕ) a = 0
      ∨ (![s', 0] : Fin 2 → ℕ) a + (![2, 1] : Fin 2 → ℕ) a * ((![n', 128] : Fin 2 → ℕ) a - 1) < SN.size a)
    (pos pos' : ∀ a : Fin 2, 0 < (![2, 1] : Fin 2 → ℕ) a) {pc : Arr n 64} {pg : Arr n 256} {pc' : Arr n' 64} {pg' : Arr n' 256}
    (h : Holds pg (fromParents P X p) ∧ Holds pc fun i => (treeB P X (p + i)).c)
    (h' : Holds pg' (fromParents P X p) ∧ Holds pc' fun i => (treeB P X (p + i)).c) :
    Fill (⟨{ off := ![s', 0], size := ![n', 128], stride := ![2, 1], inb := inb', stride_pos := pos' },
        keep (downC (inp { off := ![s', 0], size := ![n', 128], stride := ![2, 1], inb := inb' }) pc' pg' Vx)
          (downH (inp { off := ![s', 0], size := ![n', 128], stride := ![2, 1], inb := inb' }) pc' pg' Vx)⟩
      :: ⟨{ off := ![s, 0], size := ![n, 128], stride := ![2, 1], inb := inb, stride_pos := pos },
        keep (downC (inp { off := ![s, 0], size := ![n, 128], stride := ![2, 1], inb := inb }) pc pg Vx)
          (downH (inp { off := ![s, 0], size := ![n, 128], stride := ![2, 1], inb := inb }) pc pg Vx)⟩ :: L)
      (fun i _ => i < s + n + n') (dn P X) := by
  refine (downOther hin M (downOther hin M hL (Or.inl hs) inb pos h.1 h.2) (Or.inr hs') inb' pos' h'.1 h'.2).mono fun i _ _ _ hi => ?_
  by_cases h1 : i < s
  · exact Or.inl (Or.inl h1)
  · by_cases h2 : (i - s) % 2 = 0
    · exact Or.inl (Or.inr ⟨(i - s) / 2, by omega, by omega⟩)
    · exact Or.inr ⟨(i - s) / 2, by omega, by omega⟩

end

/-- The first rows of an array. -/
def top {n : ℕ} {N : ℕ} (n' : ℕ) (hn : n' ≤ n) (o w : ℕ) (hw : o + w ≤ N) (x : Arr n N) : Arr n' w :=
  extractStridedSlice (Sh n' w) ![0, o] x ⟨rfl, fun a => by
    match a with
    | ⟨0, _⟩ => exact (Nat.zero_add _).trans_le hn
    | ⟨1, _⟩ => exact hw⟩

theorem Holds.top {n N : ℕ} {x : Arr n N} {f : ℕ → ℕ → EReal} (hx : Holds x f) {n' o w : ℕ} (hn : n' ≤ n) (hw : o + w ≤ N) :
    Holds (top n' hn o w hw x) fun r q => f r (o + q) := fun r q => by
  unfold Tree.top extractStridedSlice
  refine Eq.trans ?_ (hx ⟨r, by omega⟩ ⟨o + q, by omega⟩)
  exact congrArg x (ext2 (Nat.zero_add _) rfl)

/-- The last level has one node fewer at even places: the parents' part cut to the first of its rows. -/
theorem fewer {P : Weights} {X : ℕ → ℕ → EReal} {p n n' : ℕ} {x : Arr n 128} {pg : Arr n 256} (hn : n' ≤ n)
    (h : Holds pg (fromParents P X p) ∧ Holds (cols 0 64 (by omega) x) fun i => (treeB P X (p + i)).c) :
    Holds (top n' hn 0 256 (by omega) pg) (fromParents P X p) ∧ Holds (top n' hn 0 64 (by omega) x) fun i => (treeB P X (p + i)).c :=
  ⟨(h.1.top hn (by omega)).of_eq fun _ _ _ _ => by rw [Nat.zero_add], fun r q => by
    refine Eq.trans ?_ (h.2 ⟨r, by omega⟩ q)
    unfold top cols extractStridedSlice
    exact congrArg x (ext2 rfl rfl)⟩

/-- The hidden states come out in columns `0 … 64`, level by level, and last the other direction's in columns `64 … 128`. -/
theorem Fill.out {L : Writes} {A : ℕ → ℕ → Prop} {P : Weights} {X : ℕ → ℕ → EReal} (hL : Fill L A (layer P X)) {s n : ℕ}
    (inb : ∀ a : Fin 2, (![s, 0] : Fin 2 → ℕ) a + (![n, 64] : Fin 2 → ℕ) a ≤ SN.size a)
    {h : Arr n 64} (hh : Holds h fun i => (treeF P X (s + i)).h) :
    Fill (⟨Rect.unit (s := SN) ![s, 0] ![n, 64] inb, h⟩ :: L) (fun i j => A i j ∨ (s ≤ i ∧ i < s + n ∧ 0 ≤ j ∧ j < 0 + 64)) (layer P X) :=
  hL.unit inb (hh.of_eq fun r _ q hq => by rw [layer, Nat.zero_add, if_pos hq])

/-- What is read back of the root-to-leaves direction. -/
theorem Fill.hidden {L' : Writes} {P : Weights} {X : ℕ → ℕ → EReal} (hL' : Fill L' (fun i _ => i < 10000) (dn P X))
    {sig : RefSig} {κ : Kind} {sp : Space} (v : View sig κ sp SN .f32)
    (inb : ∀ a : Fin 2, (![0, 64] : Fin 2 → ℕ) a + (![10000, 64] : Fin 2 → ℕ) a ≤ SN.size a) :
    Holds (a := 10000) (b := 64) (v.readCov L' (Rect.unit (s := SN) ![0, 64] ![10000, 64] inb).toLoadRect)
      fun r q => layer P X (0 + r) (64 + q) :=
  (hL'.load v inb fun r hr q _ => by rw [Nat.zero_add]; exact hr).of_eq fun r _ q _ => by
    rw [layer, if_neg (by omega), Nat.add_sub_cancel_left]
    exact Cell.row_ge _ _

theorem Fill.outLast {L : Writes} {A : ℕ → ℕ → Prop} {P : Weights} {X : ℕ → ℕ → EReal} (hL : Fill L A (layer P X))
    (hA : ∀ i < 10000, ∀ j < 64, A i j)
    (inb : ∀ a : Fin 2, (![0, 64] : Fin 2 → ℕ) a + (![10000, 64] : Fin 2 → ℕ) a ≤ SN.size a)
    {w : Arr 10000 64} (h : Holds w fun r q => layer P X (0 + r) (64 + q)) :
    Fill (⟨Rect.unit (s := SN) ![0, 64] ![10000, 64] inb, w⟩ :: L) (fun _ _ => True) (layer P X) :=
  (hL.unit inb h).mono fun i hi j hj _ => by
    by_cases h : j < 64
    · exact Or.inl (hA i hi j h)
    · exact Or.inr ⟨by omega, by omega, by omega, by omega⟩

end Cert.Tree

end
-- ==== Proof.Loads.lean ====
/- What the kernel's loads of its arguments read: rows of the features, and a layer's slab of the stacked weights. -/
module

public import proofs.«01_k».proof.Proof.Steps
public import Idealize.ShloMosaic.Lib.WholeRead
public import Idealize.ShloMosaic.Lib.ValueLayout

@[expose] public section

noncomputable section

namespace Cert.Tree

open Idealize.ShloMosaic

/-- The entry of a matrix at two numbers. -/
def at2 {a b : ℕ} (x : Arr a b) (i j : ℕ) : EReal := if h : i < a ∧ j < b then x (ix2 ⟨i, h.1⟩ ⟨j, h.2⟩) else 0

/-- The entry of a stack of matrices at three numbers. -/
def at3 {a b c : ℕ} (x : FVec Ideal ⟨3, ![a, b, c]⟩ .f32) (l i j : ℕ) : EReal :=
  if h : l < a ∧ i < b ∧ j < c then x (ix3 ⟨l, h.1⟩ ⟨i, h.2.1⟩ ⟨j, h.2.2⟩) else 0

theorem at2_of {a b : ℕ} (x : Arr a b) (y : (Sh a b).Idx) : x y = at2 x (y 0) (y 1) :=
  ((dif_pos (⟨(y 0).isLt, (y 1).isLt⟩ : ((y 0 : Fin _) : ℕ) < a ∧ ((y 1 : Fin _) : ℕ) < b)).trans
    (congrArg x (ext2 (i := ix2 (y 0) (y 1)) (j := y) rfl rfl))).symm

theorem at3_of {a b c : ℕ} (x : FVec Ideal ⟨3, ![a, b, c]⟩ .f32) (y : (⟨3, ![a, b, c]⟩ : Shape).Idx) :
    x y = at3 x (y 0) (y 1) (y 2) :=
  ((dif_pos (⟨(y 0).isLt, (y 1).isLt, (y 2).isLt⟩ :
      ((y 0 : Fin _) : ℕ) < a ∧ ((y 1 : Fin _) : ℕ) < b ∧ ((y 2 : Fin _) : ℕ) < c)).trans
    (congrArg x (ValueIdx.eq_ix3 y).symm)).symm

/-- A layer's slab, or its first rows, of a stack of matrices. -/
theorem slab_holds {sig : RefSig} {κ : Kind} {sp : Space} {l M K N : ℕ} {arg : Memref sig κ sp ⟨3, ![2, M, N]⟩ .f32}
    (h : arg.IsWhole) (x : FVec Ideal ⟨3, ![2, M, N]⟩ .f32)
    (inb : ∀ a : Fin 3, (![l, 0, 0] : Fin 3 → ℕ) a + (![1, K, N] : Fin 3 → ℕ) a ≤ (⟨3, ![2, M, N]⟩ : Shape).size a)
    (hc : (⟨3, ![1, K, N]⟩ : Shape).ShapeCasts (Sh K N)) :
    Holds (shapeCast (Sh K N) (View.readAt (Elt Ideal) arg.view (Rect.unit (s := ⟨3, ![2, M, N]⟩) ![l, 0, 0] ![1, K, N] inb).toLoadRect
      (h.unread x) : FVec Ideal ⟨3, ![1, K, N]⟩ .f32) hc) (fun k o => at3 x l k o) := by
  intro k o
  refine (ValueIdx.shapeCast_1ab_ab_apply _ hc k o).trans ((Memref.IsWhole.readAt_unread (Val := Elt Ideal) h x
    (Rect.unit (s := ⟨3, ![2, M, N]⟩) ![l, 0, 0] ![1, K, N] inb).toLoadRect (ix3 0 k o)).trans ((at3_of x ((Rect.unit (s := ⟨3, ![2, M, N]⟩) ![l, 0, 0]
    ![1, K, N] inb).toLoadRect.idx (ix3 0 k o))).trans ?_))
  have e0 : (((Rect.unit (s := ⟨3, ![2, M, N]⟩) ![l, 0, 0] ![1, K, N] inb).toLoadRect.idx (ix3 0 k o) 0 : Fin _) : ℕ) = l :=
    congrArg (l + ·) (Nat.one_mul _)
  have e1 : (((Rect.unit (s := ⟨3, ![2, M, N]⟩) ![l, 0, 0] ![1, K, N] inb).toLoadRect.idx (ix3 0 k o) 1 : Fin _) : ℕ) = k :=
    (Nat.zero_add _).trans (Nat.one_mul _)
  have e2 : (((Rect.unit (s := ⟨3, ![2, M, N]⟩) ![l, 0, 0] ![1, K, N] inb).toLoadRect.idx (ix3 0 k o) 2 : Fin _) : ℕ) = o :=
    (Nat.zero_add _).trans (Nat.one_mul _)
  rw [e0, e1, e2]

/-- Loads of rows of an argument held whole. -/
theorem rows_read {sig : RefSig} {κ : Kind} {sp : Space} {arg : Memref sig κ sp SN .f32} (h : arg.IsWhole) (x : Arr 10000 128) :
    Rows (fun B => View.readAt (Elt Ideal) arg.view B (h.unread x)) (at2 x) where
  unit s n inb r q := by
    refine (Memref.IsWhole.readAt_unread (Val := Elt Ideal) h x (Rect.unit (s := SN) ![s, 0] ![n, 128] inb).toLoadRect (ix2 r q)).trans ((at2_of x ((Rect.unit (s := SN) ![s, 0] ![n, 128] inb).toLoadRect.idx (ix2 r q))).trans ?_)
    exact congrArg₂ (at2 x) (congrArg (s + ·) (Nat.one_mul _)) ((Nat.zero_add _).trans (Nat.one_mul _))
  other s n inb r q := by
    refine (Memref.IsWhole.readAt_unread (Val := Elt Ideal) h x
      { off := ![s, 0], size := ![n, 128], stride := ![2, 1], inb := inb } (ix2 r q)).trans ((at2_of x
      (({ off := ![s, 0], size := ![n, 128], stride := ![2, 1], inb := inb } : LoadRect SN).idx (ix2 r q))).trans ?_)
    exact congrArg₂ (at2 x) rfl ((Nat.zero_add _).trans (Nat.one_mul _))

/-- Loads of rows of an array that the writes have filled. -/
theorem rows_cov {sig : RefSig} {κ : Kind} {sp : Space} (v : View sig κ sp SN .f32) {L : Writes} {X : ℕ → ℕ → EReal}
    (h : Fill L (fun _ _ => True) X) : Rows (fun B => v.readCov L B) X where
  unit s n inb := (h.load v inb fun _ _ _ _ => trivial).of_eq fun r _ q _ => by rw [Nat.zero_add]
  other s n inb := h.load_strided v inb fun _ _ _ _ => trivial

end Cert.Tree

end
-- ==== Proof.Kern.lean ====
/- The arguments of the kernel's body, and what its loads of the weights of layer `l` are. -/
module

public import proofs.«01_k».proof.Proof.Gen.KernelIdeal.Frame.RunA
public import proofs.«01_k».proof.Proof.Loads

@[expose] public section

noncomputable section

namespace Cert.Tree

open Idealize.ShloMosaic Idealize.ShloMosaic.TcCoe
open Cert.KernelIdeal (S10000x128 S2x384x384 S2x1x384 S2x128x256 S2x1x256)

/-- The first `K` rows of the matrix of layer `l`, as loaded. -/
def slab {sp : Space} {M N : ℕ} {arg : Memref KernelIdeal.sig .tc sp ⟨3, ![2, M, N]⟩ .f32} (h : arg.IsWhole)
    (x : FVec Ideal ⟨3, ![2, M, N]⟩ .f32) (l K : ℕ) (hl : l < 2) (hK : K ≤ M) : Arr K N :=
  shapeCast (Sh K N) (View.readAt (Elt Ideal) arg.view (Rect.unit (s := ⟨3, ![2, M, N]⟩) ![l, 0, 0] ![1, K, N] fun a => by
    match a with
    | ⟨0, _⟩ => exact hl
    | ⟨1, _⟩ => exact (Nat.zero_add _).trans_le hK
    | ⟨2, _⟩ => exact (Nat.zero_add _).le).toLoadRect (h.unread x) : FVec Ideal ⟨3, ![1, K, N]⟩ .f32) (by
      show Shape.numel _ = Shape.numel _
      simp [Shape.numel, Fin.prod_univ_succ])

theorem Holds.slab {sp : Space} {M N : ℕ} {arg : Memref KernelIdeal.sig .tc sp ⟨3, ![2, M, N]⟩ .f32} (h : arg.IsWhole)
    (x : FVec Ideal ⟨3, ![2, M, N]⟩ .f32) (l K : ℕ) (hl : l < 2) (hK : K ≤ M) :
    Holds (slab h x l K hl hK) (fun k o => at3 x l k o) := slab_holds h x _ _

/-- A bias of layer `l`, as loaded. -/
theorem Holds.slab1 {sp : Space} {N : ℕ} {arg : Memref KernelIdeal.sig .tc sp ⟨3, ![2, 1, N]⟩ .f32} (h : arg.IsWhole)
    (x : FVec Ideal ⟨3, ![2, 1, N]⟩ .f32) (l : ℕ) (hl : l < 2) :
    Holds (Tree.slab h x l 1 hl le_rfl) (fun _ => at3 x l 0) := (Holds.slab h x l 1 hl le_rfl).of_eq fun r hr q _ => by
  rw [show r = 0 by omega]

/-- The arrays the kernel is called with hold the weights `P` of layer `l`. -/
structure Host (P : Weights) (l : ℕ) (x1 : Vec Ideal S2x384x384 .f32) (x2 x3 x4 : Vec Ideal S2x1x384 .f32)
    (x5 x6 : Vec Ideal S2x128x256 .f32) (x7 : Vec Ideal S2x1x256 .f32) : Prop where
  wall : IsWall P (at3 x1 l)
  down : IsDown P (at3 x5 l) (at3 x6 l) (at3 x7 l 0)
  own : ∀ o < 320, at3 x2 l 0 o = P.bx o
  both : ∀ o < 320, at3 x3 l 0 o = P.bx o + P.bl o + P.br o
  left : ∀ o < 320, at3 x4 l 0 o = P.bx o + P.bl o

section
variable {arg1 : Memref KernelIdeal.sig .tc .vmem S2x384x384 .f32} {arg2 arg3 arg4 : Memref KernelIdeal.sig .tc .vmem S2x1x384 .f32}
  {arg5 arg6 : Memref KernelIdeal.sig .tc .vmem S2x128x256 .f32} {arg7 : Memref KernelIdeal.sig .tc .vmem S2x1x256 .f32}
  (harg1 : arg1.IsWhole) (harg2 : arg2.IsWhole) (harg3 : arg3.IsWhole) (harg4 : arg4.IsWhole) (harg5 : arg5.IsWhole)
  (harg6 : arg6.IsWhole) (harg7 : arg7.IsWhole)
  {x1 : Vec Ideal S2x384x384 .f32} {x2 x3 x4 : Vec Ideal S2x1x384 .f32} {x5 x6 : Vec Ideal S2x128x256 .f32}
  {x7 : Vec Ideal S2x1x256 .f32}

/-- The loads of a layer's weights. -/
def mats {P : Weights} {l : ℕ} (hl : l < 2) (H : Host P l x1 x2 x3 x4 x5 x6 x7) :
    Mats P (slab harg1 x1 l 384 hl (by omega)) (slab harg1 x1 l 256 hl (by omega)) (slab harg1 x1 l 128 hl (by omega))
      (slab harg2 x2 l 1 hl le_rfl) (slab harg4 x4 l 1 hl le_rfl) (slab harg3 x3 l 1 hl le_rfl)
      (slab harg5 x5 l 128 hl le_rfl) (slab harg6 x6 l 128 hl le_rfl) (slab harg7 x7 l 1 hl le_rfl) where
  w := at3 x1 l
  wx := at3 x5 l
  wh := at3 x6 l
  d := at3 x7 l 0
  wall := H.wall
  down := H.down
  h3 := Holds.slab harg1 x1 l _ hl _
  h2 := Holds.slab harg1 x1 l _ hl _
  h1 := Holds.slab harg1 x1 l _ hl _
  e0 := at3 x2 l 0
  e1 := at3 x4 l 0
  e2 := at3 x3 l 0
  hb0 := Holds.slab1 harg2 x2 l hl
  hb1 := Holds.slab1 harg4 x4 l hl
  hb2 := Holds.slab1 harg3 x3 l hl
  he0 := H.own
  he1 := H.left
  he2 := H.both
  hx := Holds.slab harg5 x5 l _ hl _
  hh := Holds.slab harg6 x6 l _ hl _
  hd := Holds.slab1 harg7 x7 l hl

end

end Cert.Tree

end
-- ==== Proof.Low.lean ====
/- The first layer of the kernel: one application of a level's theorem per level, from the leaves up and from the root down. -/
module

public import proofs.«01_k».proof.Proof.Kern

@[expose] public section

set_option maxRecDepth 16384

noncomputable section

namespace Cert.Tree

open Idealize.ShloMosaic Idealize.ShloMosaic.TcCoe
open Cert.KernelIdeal (S10000x128 S2x384x384 S2x1x384 S2x128x256 S2x1x256 nD)
open Cert.KernelIdeal.Gen

variable (c : Dev nD)
  (arg0 : Memref KernelIdeal.sig .tc .vmem S10000x128 .f32) (harg0 : arg0.IsWhole)
  (arg1 : Memref KernelIdeal.sig .tc .vmem S2x384x384 .f32) (harg1 : arg1.IsWhole)
  (arg2 : Memref KernelIdeal.sig .tc .vmem S2x1x384 .f32) (harg2 : arg2.IsWhole)
  (arg3 : Memref KernelIdeal.sig .tc .vmem S2x1x384 .f32) (harg3 : arg3.IsWhole)
  (arg4 : Memref KernelIdeal.sig .tc .vmem S2x1x384 .f32) (harg4 : arg4.IsWhole)
  (arg5 : Memref KernelIdeal.sig .tc .vmem S2x128x256 .f32) (harg5 : arg5.IsWhole)
  (arg6 : Memref KernelIdeal.sig .tc .vmem S2x128x256 .f32) (harg6 : arg6.IsWhole)
  (arg7 : Memref KernelIdeal.sig .tc .vmem S2x1x256 .f32) (harg7 : arg7.IsWhole)
  (arg8 : Memref KernelIdeal.sig .tc .vmem S10000x128 .f32) (harg8 : arg8.IsWhole)
  (arg9 : Memref KernelIdeal.sig .tc .vmem S10000x128 .f32) (harg9 : arg9.IsWhole)
  (arg10 : Memref KernelIdeal.sig .tc .vmem S10000x128 .f32) (harg10 : arg10.IsWhole)
  (arg11 : Memref KernelIdeal.sig .tc .vmem S10000x128 .f32) (harg11 : arg11.IsWhole)
  (x0 : Vec Ideal S10000x128 .f32)  (x1 : Vec Ideal S2x384x384 .f32)  (x2 : Vec Ideal S2x1x384 .f32)
  (x3 : Vec Ideal S2x1x384 .f32)  (x4 : Vec Ideal S2x1x384 .f32)  (x5 : Vec Ideal S2x128x256 .f32)
  (x6 : Vec Ideal S2x128x256 .f32)  (x7 : Vec Ideal S2x1x256 .f32)

/-- What the first layer writes is the layer of the features. -/
theorem low {P : Weights} (H : Host P 0 x1 x2 x3 x4 x5 x6 x7) :
    Fill (kernelRun0_A.sl.HS0_17 c arg0 harg0 arg1 harg1 arg2 harg2 arg3 harg3 arg4 harg4 arg5 harg5 arg6 harg6 arg7 harg7 arg10 arg11 x0 x1 x2 x3 x4 x5 x6 x7) (fun _ _ => True) (layer P (at2 x0)) := by
  have hin := rows_read harg0 x0
  have M := mats harg1 harg2 harg3 harg4 harg5 harg6 harg7 (l := 0) (by omega) H
  generalize hX : at2 x0 = X at hin ⊢
  have u1 := upLeaf hin M (Fill.none [] _) (s := 8191) (n := 1809) (by omega) inb_S10000x128_S1809x128_8191_0 (M.hb0.rowsOf 1809)
  have f1 : Fill (kernelRun0_A.sl.HS1_1 c arg0 harg0 arg1 harg1 arg2 harg2 x0 x1 x2) _ (up P X) := u1.1
  have u2 := upBoth hin M (L := kernelRun0_A.sl.HS1_1 c arg0 harg0 arg1 harg1 arg2 harg2 x0 x1 x2) f1 arg10.view (s := 4095) (n := 904) rfl rfl (by omega) (fun i _ _ _ => Or.inr ⟨by omega, by omega⟩)
    inb_S10000x128_S904x128_4095_0 inb_S10000x128_S904x128_8191_0_s_2_1 inb_S10000x128_S904x128_8192_0_s_2_1 (M.hb2.rowsOf 904)
  have f2 : Fill (kernelRun0_A.sl.HS1_2 c arg0 harg0 arg1 harg1 arg2 harg2 arg3 harg3 arg10 x0 x1 x2 x3) _ (up P X) := u2.1
  have u3 := upLeft hin M (L := kernelRun0_A.sl.HS1_2 c arg0 harg0 arg1 harg1 arg2 harg2 arg3 harg3 arg10 x0 x1 x2 x3) f2 arg10.view (s := 4999) (n := 1) rfl rfl rfl (fun _ => Or.inl (Or.inr ⟨by omega, by omega⟩))
    inb_S10000x128_S1x128_4999_0 inb_S10000x128_S1x128_9999_0_s_2_1 M.hb1
  have u4 := upLeaf hin M u3.1 (s := 5000) (n := 3191) (by omega) inb_S10000x128_S3191x128_5000_0 (M.hb0.rowsOf 3191)
  have v0 : Fill (kernelRun0_A.sl.HS1_4 c arg0 harg0 arg1 harg1 arg2 harg2 arg3 harg3 arg4 harg4 arg10 x0 x1 x2 x3 x4) (fun i _ => 4095 ≤ i) (up P X) := u4.1.mono fun i _ _ _ h => by omega
  have v1 := upLevel hin M (L := kernelRun0_A.sl.HS1_4 c arg0 harg0 arg1 harg1 arg2 harg2 arg3 harg3 arg4 harg4 arg10 x0 x1 x2 x3 x4) v0 arg10.view (s := 2047) rfl rfl rfl (by omega)
    inb_S10000x128_S2048x128_2047_0 inb_S10000x128_S2048x128_4095_0_s_2_1 inb_S10000x128_S2048x128_4096_0_s_2_1 (M.hb2.rowsOf 2048)
  have g1 : Fill (kernelRun0_A.sl.HS1_5 c arg0 harg0 arg1 harg1 arg2 harg2 arg3 harg3 arg4 harg4 arg10 x0 x1 x2 x3 x4) (fun i _ => 2047 ≤ i) (up P X) := v1.1
  have v2 := upLevel hin M (L := kernelRun0_A.sl.HS1_5 c arg0 harg0 arg1 harg1 arg2 harg2 arg3 harg3 arg4 harg4 arg10 x0 x1 x2 x3 x4) g1 arg10.view (s := 1023) rfl rfl rfl (by omega)
    inb_S10000x128_S1024x128_1023_0 inb_S10000x128_S1024x128_2047_0_s_2_1 inb_S10000x128_S1024x128_2048_0_s_2_1 (M.hb2.rowsOf 1024)
  have g2 : Fill (kernelRun0_A.sl.HS1_6 c arg0 harg0 arg1 harg1 arg2 harg2 arg3 harg3 arg4 harg4 arg10 x0 x1 x2 x3 x4) (fun i _ => 1023 ≤ i) (up P X) := v2.1
  have v3 := upLevel hin M (L := kernelRun0_A.sl.HS1_6 c arg0 harg0 arg1 harg1 arg2 harg2 arg3 harg3 arg4 harg4 arg10 x0 x1 x2 x3 x4) g2 arg10.view (s := 511) rfl rfl rfl (by omega)
    inb_S10000x128_S512x128_511_0 inb_S10000x128_S512x128_1023_0_s_2_1 inb_S10000x128_S512x128_1024_0_s_2_1 (M.hb2.rowsOf 512)
  have g3 : Fill (kernelRun0_A.sl.HS1_7 c arg0 harg0 arg1 harg1 arg2 harg2 arg3 harg3 arg4 harg4 arg10 x0 x1 x2 x3 x4) (fun i _ => 511 ≤ i) (up P X) := v3.1
  have v4 := upLevel hin M (L := kernelRun0_A.sl.HS1_7 c arg0 harg0 arg1 harg1 arg2 harg2 arg3 harg3 arg4 harg4 arg10 x0 x1 x2 x3 x4) g3 arg10.view (s := 255) rfl rfl rfl (by omega)
    inb_S10000x128_S256x128_255_0 inb_S10000x128_S256x128_511_0_s_2_1 inb_S10000x128_S256x128_512_0_s_2_1 (M.hb2.rowsOf 256)
  have g4 : Fill (kernelRun0_A.sl.HS1_8 c arg0 harg0 arg1 harg1 arg2 harg2 arg3 harg3 arg4 harg4 arg10 x0 x1 x2 x3 x4) (fun i _ => 255 ≤ i) (up P X) := v4.1
  have v5 := upLevel hin M (L := kernelRun0_A.sl.HS1_8 c arg0 harg0 arg1 harg1 arg2 harg2 arg3 harg3 arg4 harg4 arg10 x0 x1 x2 x3 x4) g4 arg10.view (s := 127) rfl rfl rfl (by omega)
    inb_S10000x128_S128x128_127_0 inb_S10000x128_S128x128_255_0_s_2_1 inb_S10000x128_S128x128_256_0_s_2_1 (M.hb2.rowsOf 128)
  have g5 : Fill (kernelRun0_A.sl.HS1_9 c arg0 harg0 arg1 harg1 arg2 harg2 arg3 harg3 arg4 harg4 arg10 x0 x1 x2 x3 x4) (fun i _ => 127 ≤ i) (up P X) := v5.1
  have v6 := upLevel hin M (L := kernelRun0_A.sl.HS1_9 c arg0 harg0 arg1 harg1 arg2 harg2 arg3 harg3 arg4 harg4 arg10 x0 x1 x2 x3 x4) g5 arg10.view (s := 63) rfl rfl rfl (by omega)
    inb_S10000x128_S64x128_63_0 inb_S10000x128_S64x128_127_0_s_2_1 inb_S10000x128_S64x128_128_0_s_2_1 (M.hb2.rowsOf 64)
  have g6 : Fill (kernelRun0_A.sl.HS1_10 c arg0 harg0 arg1 harg1 arg2 harg2 arg3 harg3 arg4 harg4 arg10 x0 x1 x2 x3 x4) (fun i _ => 63 ≤ i) (up P X) := v6.1
  have v7 := upLevel hin M (L := kernelRun0_A.sl.HS1_10 c arg0 harg0 arg1 harg1 arg2 harg2 arg3 harg3 arg4 harg4 arg10 x0 x1 x2 x3 x4) g6 arg10.view (s := 31) rfl rfl rfl (by omega)
    inb_S10000x128_S32x128_31_0 inb_S10000x128_S32x128_63_0_s_2_1 inb_S10000x128_S32x128_64_0_s_2_1 (M.hb2.rowsOf 32)
  have g7 : Fill (kernelRun0_A.sl.HS1_11 c arg0 harg0 arg1 harg1 arg2 harg2 arg3 harg3 arg4 harg4 arg10 x0 x1 x2 x3 x4) (fun i _ => 31 ≤ i) (up P X) := v7.1
  have v8 := upLevel hin M (L := kernelRun0_A.sl.HS1_11 c arg0 harg0 arg1 harg1 arg2 harg2 arg3 harg3 arg4 harg4 arg10 x0 x1 x2 x3 x4) g7 arg10.view (s := 15) rfl rfl rfl (by omega)
    inb_S10000x128_S16x128_15_0 inb_S10000x128_S16x128_31_0_s_2_1 inb_S10000x128_S16x128_32_0_s_2_1 (M.hb2.rowsOf 16)
  have g8 : Fill (kernelRun0_A.sl.HS1_12 c arg0 harg0 arg1 harg1 arg2 harg2 arg3 harg3 arg4 harg4 arg10 x0 x1 x2 x3 x4) (fun i _ => 15 ≤ i) (up P X) := v8.1
  have v9 := upLevel hin M (L := kernelRun0_A.sl.HS1_12 c arg0 harg0 arg1 harg1 arg2 harg2 arg3 harg3 arg4 harg4 arg10 x0 x1 x2 x3 x4) g8 arg10.view (s := 7) rfl rfl rfl (by omega)
    inb_S10000x128_S8x128_7_0 inb_S10000x128_S8x128_15_0_s_2_1 inb_S10000x128_S8x128_16_0_s_2_1 (M.hb2.rowsOf 8)
  have g9 : Fill (kernelRun0_A.sl.HS1_13 c arg0 harg0 arg1 harg1 arg2 harg2 arg3 harg3 arg4 harg4 arg10 x0 x1 x2 x3 x4) (fun i _ => 7 ≤ i) (up P X) := v9.1
  have v10 := upLevel hin M (L := kernelRun0_A.sl.HS1_13 c arg0 harg0 arg1 harg1 arg2 harg2 arg3 harg3 arg4 harg4 arg10 x0 x1 x2 x3 x4) g9 arg10.view (s := 3) rfl rfl rfl (by omega)
    inb_S10000x128_S4x128_3_0 inb_S10000x128_S4x128_7_0_s_2_1 inb_S10000x128_S4x128_8_0_s_2_1 (M.hb2.rowsOf 4)
  have g10 : Fill (kernelRun0_A.sl.HS1_14 c arg0 harg0 arg1 harg1 arg2 harg2 arg3 harg3 arg4 harg4 arg10 x0 x1 x2 x3 x4) (fun i _ => 3 ≤ i) (up P X) := v10.1
  have v11 := upLevel hin M (L := kernelRun0_A.sl.HS1_14 c arg0 harg0 arg1 harg1 arg2 harg2 arg3 harg3 arg4 harg4 arg10 x0 x1 x2 x3 x4) g10 arg10.view (s := 1) rfl rfl rfl (by omega)
    inb_S10000x128_S2x128_1_0 inb_S10000x128_S2x128_3_0_s_2_1 inb_S10000x128_S2x128_4_0_s_2_1 (M.hb2.rowsOf 2)
  have g11 : Fill (kernelRun0_A.sl.HS1_15 c arg0 harg0 arg1 harg1 arg2 harg2 arg3 harg3 arg4 harg4 arg10 x0 x1 x2 x3 x4) (fun i _ => 1 ≤ i) (up P X) := v11.1
  have v12 := upLevel hin M (L := kernelRun0_A.sl.HS1_15 c arg0 harg0 arg1 harg1 arg2 harg2 arg3 harg3 arg4 harg4 arg10 x0 x1 x2 x3 x4) g11 arg10.view (s := 0) rfl rfl rfl (by omega)
    inb_S10000x128_S1x128_0_0 inb_S10000x128_S1x128_1_0_s_2_1 inb_S10000x128_S1x128_2_0_s_2_1 M.hb2
  have e0 : Fill (kernelRun0_A.sl.HS2_1 c arg0 harg0 arg5 harg5 arg7 harg7 x0 x5 x7) (fun i _ => i < 1) (dn P X) := downRoot hin M [] inb_S10000x128_S1x128_0_0
  have p1 := parents M (L := kernelRun0_A.sl.HS2_1 c arg0 harg0 arg5 harg5 arg7 harg7 x0 x5 x7) e0 arg11.view (p := 0) (n := 1) inb_S10000x128_S1x128_0_0 (fun i _ _ _ => by omega) M.hd
  have d1 := downLevel hin M (L := kernelRun0_A.sl.HS2_1 c arg0 harg0 arg5 harg5 arg7 harg7 x0 x5 x7) e0 (p := 0) (s := 1) (s' := 2) (n := 1) (n' := 1) rfl rfl (by omega) (by omega)
    inb_S10000x128_S1x128_1_0_s_2_1 inb_S10000x128_S1x128_2_0_s_2_1 spos_2_1 spos_2_1 p1 p1
  have e1 : Fill (kernelRun0_A.sl.HS2_3 c arg0 harg0 arg5 harg5 arg6 harg6 arg7 harg7 arg11 x0 x5 x6 x7) (fun i _ => i < 3) (dn P X) := d1
  have p2 := parents M (L := kernelRun0_A.sl.HS2_3 c arg0 harg0 arg5 harg5 arg6 harg6 arg7 harg7 arg11 x0 x5 x6 x7) e1 arg11.view (p := 1) (n := 2) inb_S10000x128_S2x128_1_0 (fun i _ _ _ => by omega) (M.hd.rowsOf 2)
  have d2 := downLevel hin M (L := kernelRun0_A.sl.HS2_3 c arg0 harg0 arg5 harg5 arg6 harg6 arg7 harg7 arg11 x0 x5 x6 x7) e1 (p := 1) (s := 3) (s' := 4) (n := 2) (n' := 2) rfl rfl (by omega) (by omega)
    inb_S10000x128_S2x128_3_0_s_2_1 inb_S10000x128_S2x128_4_0_s_2_1 spos_2_1 spos_2_1 p2 p2
  have e2 : Fill (kernelRun0_A.sl.HS2_5 c arg0 harg0 arg5 harg5 arg6 harg6 arg7 harg7 arg11 x0 x5 x6 x7) (fun i _ => i < 7) (dn P X) := d2
  have p3 := parents M (L := kernelRun0_A.sl.HS2_5 c arg0 harg0 arg5 harg5 arg6 harg6 arg7 harg7 arg11 x0 x5 x6 x7) e2 arg11.view (p := 3) (n := 4) inb_S10000x128_S4x128_3_0 (fun i _ _ _ => by omega) (M.hd.rowsOf 4)
  have d3 := downLevel hin M (L := kernelRun0_A.sl.HS2_5 c arg0 harg0 arg5 harg5 arg6 harg6 arg7 harg7 arg11 x0 x5 x6 x7) e2 (p := 3) (s := 7) (s' := 8) (n := 4) (n' := 4) rfl rfl (by omega) (by omega)
    inb_S10000x128_S4x128_7_0_s_2_1 inb_S10000x128_S4x128_8_0_s_2_1 spos_2_1 spos_2_1 p3 p3
  have e3 : Fill (kernelRun0_A.sl.HS2_7 c arg0 harg0 arg5 harg5 arg6 harg6 arg7 harg7 arg11 x0 x5 x6 x7) (fun i _ => i < 15) (dn P X) := d3
  have p4 := parents M (L := kernelRun0_A.sl.HS2_7 c arg0 harg0 arg5 harg5 arg6 harg6 arg7 harg7 arg11 x0 x5 x6 x7) e3 arg11.view (p := 7) (n := 8) inb_S10000x128_S8x128_7_0 (fun i _ _ _ => by omega) (M.hd.rowsOf 8)
  have d4 := downLevel hin M (L := kernelRun0_A.sl.HS2_7 c arg0 harg0 arg5 harg5 arg6 harg6 arg7 harg7 arg11 x0 x5 x6 x7) e3 (p := 7) (s := 15) (s' := 16) (n := 8) (n' := 8) rfl rfl (by omega) (by omega)
    inb_S10000x128_S8x128_15_0_s_2_1 inb_S10000x128_S8x128_16_0_s_2_1 spos_2_1 spos_2_1 p4 p4
  have e4 : Fill (kernelRun0_A.sl.HS2_9 c arg0 harg0 arg5 harg5 arg6 harg6 arg7 harg7 arg11 x0 x5 x6 x7) (fun i _ => i < 31) (dn P X) := d4
  have p5 := parents M (L := kernelRun0_A.sl.HS2_9 c arg0 harg0 arg5 harg5 arg6 harg6 arg7 harg7 arg11 x0 x5 x6 x7) e4 arg11.view (p := 15) (n := 16) inb_S10000x128_S16x128_15_0 (fun i _ _ _ => by omega) (M.hd.rowsOf 16)
  have d5 := downLevel hin M (L := kernelRun0_A.sl.HS2_9 c arg0 harg0 arg5 harg5 arg6 harg6 arg7 harg7 arg11 x0 x5 x6 x7) e4 (p := 15) (s := 31) (s' := 32) (n := 16) (n' := 16) rfl rfl (by omega) (by omega)
    inb_S10000x128_S16x128_31_0_s_2_1 inb_S10000x128_S16x128_32_0_s_2_1 spos_2_1 spos_2_1 p5 p5
  have e5 : Fill (kernelRun0_A.sl.HS2_11 c arg0 harg0 arg5 harg5 arg6 harg6 arg7 harg7 arg11 x0 x5 x6 x7) (fun i _ => i < 63) (dn P X) := d5
  have p6 := parents M (L := kernelRun0_A.sl.HS2_11 c arg0 harg0 arg5 harg5 arg6 harg6 arg7 harg7 arg11 x0 x5 x6 x7) e5 arg11.view (p := 31) (n := 32) inb_S10000x128_S32x128_31_0 (fun i _ _ _ => by omega) (M.hd.rowsOf 32)
  have d6 := downLevel hin M (L := kernelRun0_A.sl.HS2_11 c arg0 harg0 arg5 harg5 arg6 harg6 arg7 harg7 arg11 x0 x5 x6 x7) e5 (p := 31) (s := 63) (s' := 64) (n := 32) (n' := 32) rfl rfl (by omega) (by omega)
    inb_S10000x128_S32x128_63_0_s_2_1 inb_S10000x128_S32x128_64_0_s_2_1 spos_2_1 spos_2_1 p6 p6
  have e6 : Fill (kernelRun0_A.sl.HS2_13 c arg0 harg0 arg5 harg5 arg6 harg6 arg7 harg7 arg11 x0 x5 x6 x7) (fun i _ => i < 127) (dn P X) := d6
  have p7 := parents M (L := kernelRun0_A.sl.HS2_13 c arg0 harg0 arg5 harg5 arg6 harg6 arg7 harg7 arg11 x0 x5 x6 x7) e6 arg11.view (p := 63) (n := 64) inb_S10000x128_S64x128_63_0 (fun i _ _ _ => by omega) (M.hd.rowsOf 64)
  have d7 := downLevel hin M (L := kernelRun0_A.sl.HS2_13 c arg0 harg0 arg5 harg5 arg6 harg6 arg7 harg7 arg11 x0 x5 x6 x7) e6 (p := 63) (s := 127) (s' := 128) (n := 64) (n' := 64) rfl rfl (by omega) (by omega)
    inb_S10000x128_S64x128_127_0_s_2_1 inb_S10000x128_S64x128_128_0_s_2_1 spos_2_1 spos_2_1 p7 p7
  have e7 : Fill (kernelRun0_A.sl.HS2_15 c arg0 harg0 arg5 harg5 arg6 harg6 arg7 harg7 arg11 x0 x5 x6 x7) (fun i _ => i < 255) (dn P X) := d7
  have p8 := parents M (L := kernelRun0_A.sl.HS2_15 c arg0 harg0 arg5 harg5 arg6 harg6 arg7 harg7 arg11 x0 x5 x6 x7) e7 arg11.view (p := 127) (n := 128) inb_S10000x128_S128x128_127_0 (fun i _ _ _ => by omega) (M.hd.rowsOf 128)
  have d8 := downLevel hin M (L := kernelRun0_A.sl.HS2_15 c arg0 harg0 arg5 harg5 arg6 harg6 arg7 harg7 arg11 x0 x5 x6 x7) e7 (p := 127) (s := 255) (s' := 256) (n := 128) (n' := 128) rfl rfl (by omega) (by omega)
    inb_S10000x128_S128x128_255_0_s_2_1 inb_S10000x128_S128x128_256_0_s_2_1 spos_2_1 spos_2_1 p8 p8
  have e8 : Fill (kernelRun0_A.sl.HS2_17 c arg0 harg0 arg5 harg5 arg6 harg6 arg7 harg7 arg11 x0 x5 x6 x7) (fun i _ => i < 511) (dn P X) := d8
  have p9 := parents M (L := kernelRun0_A.sl.HS2_17 c arg0 harg0 arg5 harg5 arg6 harg6 arg7 harg7 arg11 x0 x5 x6 x7) e8 arg11.view (p := 255) (n := 256) inb_S10000x128_S256x128_255_0 (fun i _ _ _ => by omega) (M.hd.rowsOf 256)
  have d9 := downLevel hin M (L := kernelRun0_A.sl.HS2_17 c arg0 harg0 arg5 harg5 arg6 harg6 arg7 harg7 arg11 x0 x5 x6 x7) e8 (p := 255) (s := 511) (s' := 512) (n := 256) (n' := 256) rfl rfl (by omega) (by omega)
    inb_S10000x128_S256x128_511_0_s_2_1 inb_S10000x128_S256x128_512_0_s_2_1 spos_2_1 spos_2_1 p9 p9
  have e9 : Fill (kernelRun0_A.sl.HS2_19 c arg0 harg0 arg5 harg5 arg6 harg6 arg7 harg7 arg11 x0 x5 x6 x7) (fun i _ => i < 1023) (dn P X) := d9
  have p10 := parents M (L := kernelRun0_A.sl.HS2_19 c arg0 harg0 arg5 harg5 arg6 harg6 arg7 harg7 arg11 x0 x5 x6 x7) e9 arg11.view (p := 511) (n := 512) inb_S10000x128_S512x128_511_0 (fun i _ _ _ => by omega) (M.hd.rowsOf 512)
  have d10 := downLevel hin M (L := kernelRun0_A.sl.HS2_19 c arg0 harg0 arg5 harg5 arg6 harg6 arg7 harg7 arg11 x0 x5 x6 x7) e9 (p := 511) (s := 1023) (s' := 1024) (n := 512) (n' := 512) rfl rfl (by omega) (by omega)
    inb_S10000x128_S512x128_1023_0_s_2_1 inb_S10000x128_S512x128_1024_0_s_2_1 spos_2_1 spos_2_1 p10 p10
  have e10 : Fill (kernelRun0_A.sl.HS2_21 c arg0 harg0 arg5 harg5 arg6 harg6 arg7 harg7 arg11 x0 x5 x6 x7) (fun i _ => i < 2047) (dn P X) := d10
  have p11 := parents M (L := kernelRun0_A.sl.HS2_21 c arg0 harg0 arg5 harg5 arg6 harg6 arg7 harg7 arg11 x0 x5 x6 x7) e10 arg11.view (p := 1023) (n := 1024) inb_S10000x128_S1024x128_1023_0 (fun i _ _ _ => by omega) (M.hd.rowsOf 1024)
  have d11 := downLevel hin M (L := kernelRun0_A.sl.HS2_21 c arg0 harg0 arg5 harg5 arg6 harg6 arg7 harg7 arg11 x0 x5 x6 x7) e10 (p := 1023) (s := 2047) (s' := 2048) (n := 1024) (n' := 1024) rfl rfl (by omega) (by omega)
    inb_S10000x128_S1024x128_2047_0_s_2_1 inb_S10000x128_S1024x128_2048_0_s_2_1 spos_2_1 spos_2_1 p11 p11
  have e11 : Fill (kernelRun0_A.sl.HS2_23 c arg0 harg0 arg5 harg5 arg6 harg6 arg7 harg7 arg11 x0 x5 x6 x7) (fun i _ => i < 4095) (dn P X) := d11
  have p12 := parents M (L := kernelRun0_A.sl.HS2_23 c arg0 harg0 arg5 harg5 arg6 harg6 arg7 harg7 arg11 x0 x5 x6 x7) e11 arg11.view (p := 2047) (n := 2048) inb_S10000x128_S2048x128_2047_0 (fun i _ _ _ => by omega) (M.hd.rowsOf 2048)
  have d12 := downLevel hin M (L := kernelRun0_A.sl.HS2_23 c arg0 harg0 arg5 harg5 arg6 harg6 arg7 harg7 arg11 x0 x5 x6 x7) e11 (p := 2047) (s := 4095) (s' := 4096) (n := 2048) (n' := 2048) rfl rfl (by omega) (by omega)
    inb_S10000x128_S2048x128_4095_0_s_2_1 inb_S10000x128_S2048x128_4096_0_s_2_1 spos_2_1 spos_2_1 p12 p12
  have e12 : Fill (kernelRun0_A.sl.HS2_25 c arg0 harg0 arg5 harg5 arg6 harg6 arg7 harg7 arg11 x0 x5 x6 x7) (fun i _ => i < 8191) (dn P X) := d12
  have p13 := parents M (L := kernelRun0_A.sl.HS2_25 c arg0 harg0 arg5 harg5 arg6 harg6 arg7 harg7 arg11 x0 x5 x6 x7) e12 arg11.view (p := 4095) (n := 905) inb_S10000x128_S905x128_4095_0 (fun i _ _ _ => by omega) (M.hd.rowsOf 905)
  have d13 := downLevel hin M (L := kernelRun0_A.sl.HS2_25 c arg0 harg0 arg5 harg5 arg6 harg6 arg7 harg7 arg11 x0 x5 x6 x7) e12 (p := 4095) (s := 8191) (s' := 8192) (n := 905) (n' := 904) rfl rfl (by omega) (by omega)
    inb_S10000x128_S905x128_8191_0_s_2_1 inb_S10000x128_S904x128_8192_0_s_2_1 spos_2_1 spos_2_1 p13 (fewer (n' := 904) (by omega) p13)
  have e13 : Fill (kernelRun0_A.sl.HS2_27 c arg0 harg0 arg5 harg5 arg6 harg6 arg7 harg7 arg11 x0 x5 x6 x7) (fun i _ => i < 10000) (dn P X) := d13
  have z0 := Fill.none ([] : Writes) (layer P X)
  have z1 := z0.out inb_S10000x128_S1809x64_8191_0 u1.2
  have z2 := z1.out inb_S10000x128_S904x64_4095_0 u2.2
  have z3 := z2.out inb_S10000x128_S1x64_4999_0 u3.2
  have z4 := z3.out inb_S10000x128_S3191x64_5000_0 u4.2
  have z5 := z4.out inb_S10000x128_S2048x64_2047_0 v1.2
  have z6 := z5.out inb_S10000x128_S1024x64_1023_0 v2.2
  have z7 := z6.out inb_S10000x128_S512x64_511_0 v3.2
  have z8 := z7.out inb_S10000x128_S256x64_255_0 v4.2
  have z9 := z8.out inb_S10000x128_S128x64_127_0 v5.2
  have z10 := z9.out inb_S10000x128_S64x64_63_0 v6.2
  have z11 := z10.out inb_S10000x128_S32x64_31_0 v7.2
  have z12 := z11.out inb_S10000x128_S16x64_15_0 v8.2
  have z13 := z12.out inb_S10000x128_S8x64_7_0 v9.2
  have z14 := z13.out inb_S10000x128_S4x64_3_0 v10.2
  have z15 := z14.out inb_S10000x128_S2x64_1_0 v11.2
  have z16 := z15.out inb_S10000x128_S1x64_0_0 v12.2
  have w := (Fill.hidden e13 arg11.view inb_S10000x128_S10000x64_0_64).put
  exact z16.outLast (fun i _ j _ => by omega) inb_S10000x128_S10000x64_0_64 w

end Cert.Tree

end
-- ==== Proof.High.lean ====
/- The second layer of the kernel, on what the first has written. -/
module

public import proofs.«01_k».proof.Proof.Kern

@[expose] public section

set_option maxRecDepth 16384

noncomputable section

namespace Cert.Tree

open Idealize.ShloMosaic Idealize.ShloMosaic.TcCoe
open Cert.KernelIdeal (S10000x128 S2x384x384 S2x1x384 S2x128x256 S2x1x256 nD)
open Cert.KernelIdeal.Gen

variable (c : Dev nD)
  (arg0 : Memref KernelIdeal.sig .tc .vmem S10000x128 .f32) (harg0 : arg0.IsWhole)
  (arg1 : Memref KernelIdeal.sig .tc .vmem S2x384x384 .f32) (harg1 : arg1.IsWhole)
  (arg2 : Memref KernelIdeal.sig .tc .vmem S2x1x384 .f32) (harg2 : arg2.IsWhole)
  (arg3 : Memref KernelIdeal.sig .tc .vmem S2x1x384 .f32) (harg3 : arg3.IsWhole)
  (arg4 : Memref KernelIdeal.sig .tc .vmem S2x1x384 .f32) (harg4 : arg4.IsWhole)
  (arg5 : Memref KernelIdeal.sig .tc .vmem S2x128x256 .f32) (harg5 : arg5.IsWhole)
  (arg6 : Memref KernelIdeal.sig .tc .vmem S2x128x256 .f32) (harg6 : arg6.IsWhole)
  (arg7 : Memref KernelIdeal.sig .tc .vmem S2x1x256 .f32) (harg7 : arg7.IsWhole)
  (arg8 : Memref KernelIdeal.sig .tc .vmem S10000x128 .f32) (harg8 : arg8.IsWhole)
  (arg9 : Memref KernelIdeal.sig .tc .vmem S10000x128 .f32) (harg9 : arg9.IsWhole)
  (arg10 : Memref KernelIdeal.sig .tc .vmem S10000x128 .f32) (harg10 : arg10.IsWhole)
  (arg11 : Memref KernelIdeal.sig .tc .vmem S10000x128 .f32) (harg11 : arg11.IsWhole)
  (x0 : Vec Ideal S10000x128 .f32)  (x1 : Vec Ideal S2x384x384 .f32)  (x2 : Vec Ideal S2x1x384 .f32)
  (x3 : Vec Ideal S2x1x384 .f32)  (x4 : Vec Ideal S2x1x384 .f32)  (x5 : Vec Ideal S2x128x256 .f32)
  (x6 : Vec Ideal S2x128x256 .f32)  (x7 : Vec Ideal S2x1x256 .f32)

/-- What the second layer writes is the layer of what the first has written. -/
theorem high {P : Weights} {X : ℕ → ℕ → EReal} (H : Host P 1 x1 x2 x3 x4 x5 x6 x7)
    (hX : Fill (kernelRun0_A.sl.HS0_17 c arg0 harg0 arg1 harg1 arg2 harg2 arg3 harg3 arg4 harg4 arg5 harg5 arg6 harg6 arg7 harg7 arg10 arg11 x0 x1 x2 x3 x4 x5 x6 x7) (fun _ _ => True) X) :
    Fill (kernelRun0_A (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7).1 (fun _ _ => True) (layer P X) := by
  have hin := rows_cov arg9.view hX
  have M := mats harg1 harg2 harg3 harg4 harg5 harg6 harg7 (l := 1) (by omega) H
  have u1 := upLeaf hin M (Fill.none [] _) (s := 8191) (n := 1809) (by omega) inb_S10000x128_S1809x128_8191_0 (M.hb0.rowsOf 1809)
  have f1 : Fill (kernelRun0_A.sl.HS1_17 c arg0 harg0 arg1 harg1 arg2 harg2 arg3 harg3 arg4 harg4 arg5 harg5 arg6 harg6 arg7 harg7 arg9 arg10 arg11 x0 x1 x2 x3 x4 x5 x6 x7) _ (up P X) := (upLeaf hin M (Fill.none _ _) (s := 8191) (n := 1809) (by omega) inb_S10000x128_S1809x128_8191_0 (M.hb0.rowsOf 1809)).1
  have u2 := upBoth hin M (L := kernelRun0_A.sl.HS1_17 c arg0 harg0 arg1 harg1 arg2 harg2 arg3 harg3 arg4 harg4 arg5 harg5 arg6 harg6 arg7 harg7 arg9 arg10 arg11 x0 x1 x2 x3 x4 x5 x6 x7) f1 arg10.view (s := 4095) (n := 904) rfl rfl (by omega) (fun i _ _ _ => Or.inr ⟨by omega, by omega⟩)
    inb_S10000x128_S904x128_4095_0 inb_S10000x128_S904x128_8191_0_s_2_1 inb_S10000x128_S904x128_8192_0_s_2_1 (M.hb2.rowsOf 904)
  have f2 : Fill (kernelRun0_A.sl.HS1_18 c arg0 harg0 arg1 harg1 arg2 harg2 arg3 harg3 arg4 harg4 arg5 harg5 arg6 harg6 arg7 harg7 arg9 arg10 arg11 x0 x1 x2 x3 x4 x5 x6 x7) _ (up P X) := u2.1
  have u3 := upLeft hin M (L := kernelRun0_A.sl.HS1_18 c arg0 harg0 arg1 harg1 arg2 harg2 arg3 harg3 arg4 harg4 arg5 harg5 arg6 harg6 arg7 harg7 arg9 arg10 arg11 x0 x1 x2 x3 x4 x5 x6 x7) f2 arg10.view (s := 4999) (n := 1) rfl rfl rfl (fun _ => Or.inl (Or.inr ⟨by omega, by omega⟩))
    inb_S10000x128_S1x128_4999_0 inb_S10000x128_S1x128_9999_0_s_2_1 M.hb1
  have u4 := upLeaf hin M u3.1 (s := 5000) (n := 3191) (by omega) inb_S10000x128_S3191x128_5000_0 (M.hb0.rowsOf 3191)
  have v0 : Fill (kernelRun0_A.sl.HS1_20 c arg0 harg0 arg1 harg1 arg2 harg2 arg3 harg3 arg4 harg4 arg5 harg5 arg6 harg6 arg7 harg7 arg9 arg10 arg11 x0 x1 x2 x3 x4 x5 x6 x7) (fun i _ => 4095 ≤ i) (up P X) := u4.1.mono fun i _ _ _ h => by omega
  have v1 := upLevel hin M (L := kernelRun0_A.sl.HS1_20 c arg0 harg0 arg1 harg1 arg2 harg2 arg3 harg3 arg4 harg4 arg5 harg5 arg6 harg6 arg7 harg7 arg9 arg10 arg11 x0 x1 x2 x3 x4 x5 x6 x7) v0 arg10.view (s := 2047) rfl rfl rfl (by omega)
    inb_S10000x128_S2048x128_2047_0 inb_S10000x128_S2048x128_4095_0_s_2_1 inb_S10000x128_S2048x128_4096_0_s_2_1 (M.hb2.rowsOf 2048)
  have g1 : Fill (kernelRun0_A.sl.HS1_21 c arg0 harg0 arg1 harg1 arg2 harg2 arg3 harg3 arg4 harg4 arg5 harg5 arg6 harg6 arg7 harg7 arg9 arg10 arg11 x0 x1 x2 x3 x4 x5 x6 x7) (fun i _ => 2047 ≤ i) (up P X) := v1.1
  have v2 := upLevel hin M (L := kernelRun0_A.sl.HS1_21 c arg0 harg0 arg1 harg1 arg2 harg2 arg3 harg3 arg4 harg4 arg5 harg5 arg6 harg6 arg7 harg7 arg9 arg10 arg11 x0 x1 x2 x3 x4 x5 x6 x7) g1 arg10.view (s := 1023) rfl rfl rfl (by omega)
    inb_S10000x128_S1024x128_1023_0 inb_S10000x128_S1024x128_2047_0_s_2_1 inb_S10000x128_S1024x128_2048_0_s_2_1 (M.hb2.rowsOf 1024)
  have g2 : Fill (kernelRun0_A.sl.HS1_22 c arg0 harg0 arg1 harg1 arg2 harg2 arg3 harg3 arg4 harg4 arg5 harg5 arg6 harg6 arg7 harg7 arg9 arg10 arg11 x0 x1 x2 x3 x4 x5 x6 x7) (fun i _ => 1023 ≤ i) (up P X) := v2.1
  have v3 := upLevel hin M (L := kernelRun0_A.sl.HS1_22 c arg0 harg0 arg1 harg1 arg2 harg2 arg3 harg3 arg4 harg4 arg5 harg5 arg6 harg6 arg7 harg7 arg9 arg10 arg11 x0 x1 x2 x3 x4 x5 x6 x7) g2 arg10.view (s := 511) rfl rfl rfl (by omega)
    inb_S10000x128_S512x128_511_0 inb_S10000x128_S512x128_1023_0_s_2_1 inb_S10000x128_S512x128_1024_0_s_2_1 (M.hb2.rowsOf 512)
  have g3 : Fill (kernelRun0_A.sl.HS1_23 c arg0 harg0 arg1 harg1 arg2 harg2 arg3 harg3 arg4 harg4 arg5 harg5 arg6 harg6 arg7 harg7 arg9 arg10 arg11 x0 x1 x2 x3 x4 x5 x6 x7) (fun i _ => 511 ≤ i) (up P X) := v3.1
  have v4 := upLevel hin M (L := kernelRun0_A.sl.HS1_23 c arg0 harg0 arg1 harg1 arg2 harg2 arg3 harg3 arg4 harg4 arg5 harg5 arg6 harg6 arg7 harg7 arg9 arg10 arg11 x0 x1 x2 x3 x4 x5 x6 x7) g3 arg10.view (s := 255) rfl rfl rfl (by omega)
    inb_S10000x128_S256x128_255_0 inb_S10000x128_S256x128_511_0_s_2_1 inb_S10000x128_S256x128_512_0_s_2_1 (M.hb2.rowsOf 256)
  have g4 : Fill (kernelRun0_A.sl.HS1_24 c arg0 harg0 arg1 harg1 arg2 harg2 arg3 harg3 arg4 harg4 arg5 harg5 arg6 harg6 arg7 harg7 arg9 arg10 arg11 x0 x1 x2 x3 x4 x5 x6 x7) (fun i _ => 255 ≤ i) (up P X) := v4.1
  have v5 := upLevel hin M (L := kernelRun0_A.sl.HS1_24 c arg0 harg0 arg1 harg1 arg2 harg2 arg3 harg3 arg4 harg4 arg5 harg5 arg6 harg6 arg7 harg7 arg9 arg10 arg11 x0 x1 x2 x3 x4 x5 x6 x7) g4 arg10.view (s := 127) rfl rfl rfl (by omega)
    inb_S10000x128_S128x128_127_0 inb_S10000x128_S128x128_255_0_s_2_1 inb_S10000x128_S128x128_256_0_s_2_1 (M.hb2.rowsOf 128)
  have g5 : Fill (kernelRun0_A.sl.HS1_25 c arg0 harg0 arg1 harg1 arg2 harg2 arg3 harg3 arg4 harg4 arg5 harg5 arg6 harg6 arg7 harg7 arg9 arg10 arg11 x0 x1 x2 x3 x4 x5 x6 x7) (fun i _ => 127 ≤ i) (up P X) := v5.1
  have v6 := upLevel hin M (L := kernelRun0_A.sl.HS1_25 c arg0 harg0 arg1 harg1 arg2 harg2 arg3 harg3 arg4 harg4 arg5 harg5 arg6 harg6 arg7 harg7 arg9 arg10 arg11 x0 x1 x2 x3 x4 x5 x6 x7) g5 arg10.view (s := 63) rfl rfl rfl (by omega)
    inb_S10000x128_S64x128_63_0 inb_S10000x128_S64x128_127_0_s_2_1 inb_S10000x128_S64x128_128_0_s_2_1 (M.hb2.rowsOf 64)
  have g6 : Fill (kernelRun0_A.sl.HS1_26 c arg0 harg0 arg1 harg1 arg2 harg2 arg3 harg3 arg4 harg4 arg5 harg5 arg6 harg6 arg7 harg7 arg9 arg10 arg11 x0 x1 x2 x3 x4 x5 x6 x7) (fun i _ => 63 ≤ i) (up P X) := v6.1
  have v7 := upLevel hin M (L := kernelRun0_A.sl.HS1_26 c arg0 harg0 arg1 harg1 arg2 harg2 arg3 harg3 arg4 harg4 arg5 harg5 arg6 harg6 arg7 harg7 arg9 arg10 arg11 x0 x1 x2 x3 x4 x5 x6 x7) g6 arg10.view (s := 31) rfl rfl rfl (by omega)
    inb_S10000x128_S32x128_31_0 inb_S10000x128_S32x128_63_0_s_2_1 inb_S10000x128_S32x128_64_0_s_2_1 (M.hb2.rowsOf 32)
  have g7 : Fill (kernelRun0_A.sl.HS1_27 c arg0 harg0 arg1 harg1 arg2 harg2 arg3 harg3 arg4 harg4 arg5 harg5 arg6 harg6 arg7 harg7 arg9 arg10 arg11 x0 x1 x2 x3 x4 x5 x6 x7) (fun i _ => 31 ≤ i) (up P X) := v7.1
  have v8 := upLevel hin M (L := kernelRun0_A.sl.HS1_27 c arg0 harg0 arg1 harg1 arg2 harg2 arg3 harg3 arg4 harg4 arg5 harg5 arg6 harg6 arg7 harg7 arg9 arg10 arg11 x0 x1 x2 x3 x4 x5 x6 x7) g7 arg10.view (s := 15) rfl rfl rfl (by omega)
    inb_S10000x128_S16x128_15_0 inb_S10000x128_S16x128_31_0_s_2_1 inb_S10000x128_S16x128_32_0_s_2_1 (M.hb2.rowsOf 16)
  have g8 : Fill (kernelRun0_A.sl.HS1_28 c arg0 harg0 arg1 harg1 arg2 harg2 arg3 harg3 arg4 harg4 arg5 harg5 arg6 harg6 arg7 harg7 arg9 arg10 arg11 x0 x1 x2 x3 x4 x5 x6 x7) (fun i _ => 15 ≤ i) (up P X) := v8.1
  have v9 := upLevel hin M (L := kernelRun0_A.sl.HS1_28 c arg0 harg0 arg1 harg1 arg2 harg2 arg3 harg3 arg4 harg4 arg5 harg5 arg6 harg6 arg7 harg7 arg9 arg10 arg11 x0 x1 x2 x3 x4 x5 x6 x7) g8 arg10.view (s := 7) rfl rfl rfl (by omega)
    inb_S10000x128_S8x128_7_0 inb_S10000x128_S8x128_15_0_s_2_1 inb_S10000x128_S8x128_16_0_s_2_1 (M.hb2.rowsOf 8)
  have g9 : Fill (kernelRun0_A.sl.HS1_29 c arg0 harg0 arg1 harg1 arg2 harg2 arg3 harg3 arg4 harg4 arg5 harg5 arg6 harg6 arg7 harg7 arg9 arg10 arg11 x0 x1 x2 x3 x4 x5 x6 x7) (fun i _ => 7 ≤ i) (up P X) := v9.1
  have v10 := upLevel hin M (L := kernelRun0_A.sl.HS1_29 c arg0 harg0 arg1 harg1 arg2 harg2 arg3 harg3 arg4 harg4 arg5 harg5 arg6 harg6 arg7 harg7 arg9 arg10 arg11 x0 x1 x2 x3 x4 x5 x6 x7) g9 arg10.view (s := 3) rfl rfl rfl (by omega)
    inb_S10000x128_S4x128_3_0 inb_S10000x128_S4x128_7_0_s_2_1 inb_S10000x128_S4x128_8_0_s_2_1 (M.hb2.rowsOf 4)
  have g10 : Fill (kernelRun0_A.sl.HS1_30 c arg0 harg0 arg1 harg1 arg2 harg2 arg3 harg3 arg4 harg4 arg5 harg5 arg6 harg6 arg7 harg7 arg9 arg10 arg11 x0 x1 x2 x3 x4 x5 x6 x7) (fun i _ => 3 ≤ i) (up P X) := v10.1
  have v11 := upLevel hin M (L := kernelRun0_A.sl.HS1_30 c arg0 harg0 arg1 harg1 arg2 harg2 arg3 harg3 arg4 harg4 arg5 harg5 arg6 harg6 arg7 harg7 arg9 arg10 arg11 x0 x1 x2 x3 x4 x5 x6 x7) g10 arg10.view (s := 1) rfl rfl rfl (by omega)
    inb_S10000x128_S2x128_1_0 inb_S10000x128_S2x128_3_0_s_2_1 inb_S10000x128_S2x128_4_0_s_2_1 (M.hb2.rowsOf 2)
  have g11 : Fill (kernelRun0_A.sl.HS1_31 c arg0 harg0 arg1 harg1 arg2 harg2 arg3 harg3 arg4 harg4 arg5 harg5 arg6 harg6 arg7 harg7 arg9 arg10 arg11 x0 x1 x2 x3 x4 x5 x6 x7) (fun i _ => 1 ≤ i) (up P X) := v11.1
  have v12 := upLevel hin M (L := kernelRun0_A.sl.HS1_31 c arg0 harg0 arg1 harg1 arg2 harg2 arg3 harg3 arg4 harg4 arg5 harg5 arg6 harg6 arg7 harg7 arg9 arg10 arg11 x0 x1 x2 x3 x4 x5 x6 x7) g11 arg10.view (s := 0) rfl rfl rfl (by omega)
    inb_S10000x128_S1x128_0_0 inb_S10000x128_S1x128_1_0_s_2_1 inb_S10000x128_S1x128_2_0_s_2_1 M.hb2
  have e0 : Fill (kernelRun0_A.sl.HS2_28 c arg0 harg0 arg1 harg1 arg2 harg2 arg3 harg3 arg4 harg4 arg5 harg5 arg6 harg6 arg7 harg7 arg9 arg10 arg11 x0 x1 x2 x3 x4 x5 x6 x7) (fun i _ => i < 1) (dn P X) := downRoot hin M _ inb_S10000x128_S1x128_0_0
  have p1 := parents M (L := kernelRun0_A.sl.HS2_28 c arg0 harg0 arg1 harg1 arg2 harg2 arg3 harg3 arg4 harg4 arg5 harg5 arg6 harg6 arg7 harg7 arg9 arg10 arg11 x0 x1 x2 x3 x4 x5 x6 x7) e0 arg11.view (p := 0) (n := 1) inb_S10000x128_S1x128_0_0 (fun i _ _ _ => by omega) M.hd
  have d1 := downLevel hin M (L := kernelRun0_A.sl.HS2_28 c arg0 harg0 arg1 harg1 arg2 harg2 arg3 harg3 arg4 harg4 arg5 harg5 arg6 harg6 arg7 harg7 arg9 arg10 arg11 x0 x1 x2 x3 x4 x5 x6 x7) e0 (p := 0) (s := 1) (s' := 2) (n := 1) (n' := 1) rfl rfl (by omega) (by omega)
    inb_S10000x128_S1x128_1_0_s_2_1 inb_S10000x128_S1x128_2_0_s_2_1 spos_2_1 spos_2_1 p1 p1
  have e1 : Fill (kernelRun0_A.sl.HS2_30 c arg0 harg0 arg1 harg1 arg2 harg2 arg3 harg3 arg4 harg4 arg5 harg5 arg6 harg6 arg7 harg7 arg9 arg10 arg11 x0 x1 x2 x3 x4 x5 x6 x7) (fun i _ => i < 3) (dn P X) := d1
  have p2 := parents M (L := kernelRun0_A.sl.HS2_30 c arg0 harg0 arg1 harg1 arg2 harg2 arg3 harg3 arg4 harg4 arg5 harg5 arg6 harg6 arg7 harg7 arg9 arg10 arg11 x0 x1 x2 x3 x4 x5 x6 x7) e1 arg11.view (p := 1) (n := 2) inb_S10000x128_S2x128_1_0 (fun i _ _ _ => by omega) (M.hd.rowsOf 2)
  have d2 := downLevel hin M (L := kernelRun0_A.sl.HS2_30 c arg0 harg0 arg1 harg1 arg2 harg2 arg3 harg3 arg4 harg4 arg5 harg5 arg6 harg6 arg7 harg7 arg9 arg10 arg11 x0 x1 x2 x3 x4 x5 x6 x7) e1 (p := 1) (s := 3) (s' := 4) (n := 2) (n' := 2) rfl rfl (by omega) (by omega)
    inb_S10000x128_S2x128_3_0_s_2_1 inb_S10000x128_S2x128_4_0_s_2_1 spos_2_1 spos_2_1 p2 p2
  have e2 : Fill (kernelRun0_A.sl.HS2_32 c arg0 harg0 arg1 harg1 arg2 harg2 arg3 harg3 arg4 harg4 arg5 harg5 arg6 harg6 arg7 harg7 arg9 arg10 arg11 x0 x1 x2 x3 x4 x5 x6 x7) (fun i _ => i < 7) (dn P X) := d2
  have p3 := parents M (L := kernelRun0_A.sl.HS2_32 c arg0 harg0 arg1 harg1 arg2 harg2 arg3 harg3 arg4 harg4 arg5 harg5 arg6 harg6 arg7 harg7 arg9 arg10 arg11 x0 x1 x2 x3 x4 x5 x6 x7) e2 arg11.view (p := 3) (n := 4) inb_S10000x128_S4x128_3_0 (fun i _ _ _ => by omega) (M.hd.rowsOf 4)
  have d3 := downLevel hin M (L := kernelRun0_A.sl.HS2_32 c arg0 harg0 arg1 harg1 arg2 harg2 arg3 harg3 arg4 harg4 arg5 harg5 arg6 harg6 arg7 harg7 arg9 arg10 arg11 x0 x1 x2 x3 x4 x5 x6 x7) e2 (p := 3) (s := 7) (s' := 8) (n := 4) (n' := 4) rfl rfl (by omega) (by omega)
    inb_S10000x128_S4x128_7_0_s_2_1 inb_S10000x128_S4x128_8_0_s_2_1 spos_2_1 spos_2_1 p3 p3
  have e3 : Fill (kernelRun0_A.sl.HS2_34 c arg0 harg0 arg1 harg1 arg2 harg2 arg3 harg3 arg4 harg4 arg5 harg5 arg6 harg6 arg7 harg7 arg9 arg10 arg11 x0 x1 x2 x3 x4 x5 x6 x7) (fun i _ => i < 15) (dn P X) := d3
  have p4 := parents M (L := kernelRun0_A.sl.HS2_34 c arg0 harg0 arg1 harg1 arg2 harg2 arg3 harg3 arg4 harg4 arg5 harg5 arg6 harg6 arg7 harg7 arg9 arg10 arg11 x0 x1 x2 x3 x4 x5 x6 x7) e3 arg11.view (p := 7) (n := 8) inb_S10000x128_S8x128_7_0 (fun i _ _ _ => by omega) (M.hd.rowsOf 8)
  have d4 := downLevel hin M (L := kernelRun0_A.sl.HS2_34 c arg0 harg0 arg1 harg1 arg2 harg2 arg3 harg3 arg4 harg4 arg5 harg5 arg6 harg6 arg7 harg7 arg9 arg10 arg11 x0 x1 x2 x3 x4 x5 x6 x7) e3 (p := 7) (s := 15) (s' := 16) (n := 8) (n' := 8) rfl rfl (by omega) (by omega)
    inb_S10000x128_S8x128_15_0_s_2_1 inb_S10000x128_S8x128_16_0_s_2_1 spos_2_1 spos_2_1 p4 p4
  have e4 : Fill (kernelRun0_A.sl.HS2_36 c arg0 harg0 arg1 harg1 arg2 harg2 arg3 harg3 arg4 harg4 arg5 harg5 arg6 harg6 arg7 harg7 arg9 arg10 arg11 x0 x1 x2 x3 x4 x5 x6 x7) (fun i _ => i < 31) (dn P X) := d4
  have p5 := parents M (L := kernelRun0_A.sl.HS2_36 c arg0 harg0 arg1 harg1 arg2 harg2 arg3 harg3 arg4 harg4 arg5 harg5 arg6 harg6 arg7 harg7 arg9 arg10 arg11 x0 x1 x2 x3 x4 x5 x6 x7) e4 arg11.view (p := 15) (n := 16) inb_S10000x128_S16x128_15_0 (fun i _ _ _ => by omega) (M.hd.rowsOf 16)
  have d5 := downLevel hin M (L := kernelRun0_A.sl.HS2_36 c arg0 harg0 arg1 harg1 arg2 harg2 arg3 harg3 arg4 harg4 arg5 harg5 arg6 harg6 arg7 harg7 arg9 arg10 arg11 x0 x1 x2 x3 x4 x5 x6 x7) e4 (p := 15) (s := 31) (s' := 32) (n := 16) (n' := 16) rfl rfl (by omega) (by omega)
    inb_S10000x128_S16x128_31_0_s_2_1 inb_S10000x128_S16x128_32_0_s_2_1 spos_2_1 spos_2_1 p5 p5
  have e5 : Fill (kernelRun0_A.sl.HS2_38 c arg0 harg0 arg1 harg1 arg2 harg2 arg3 harg3 arg4 harg4 arg5 harg5 arg6 harg6 arg7 harg7 arg9 arg10 arg11 x0 x1 x2 x3 x4 x5 x6 x7) (fun i _ => i < 63) (dn P X) := d5
  have p6 := parents M (L := kernelRun0_A.sl.HS2_38 c arg0 harg0 arg1 harg1 arg2 harg2 arg3 harg3 arg4 harg4 arg5 harg5 arg6 harg6 arg7 harg7 arg9 arg10 arg11 x0 x1 x2 x3 x4 x5 x6 x7) e5 arg11.view (p := 31) (n := 32) inb_S10000x128_S32x128_31_0 (fun i _ _ _ => by omega) (M.hd.rowsOf 32)
  have d6 := downLevel hin M (L := kernelRun0_A.sl.HS2_38 c arg0 harg0 arg1 harg1 arg2 harg2 arg3 harg3 arg4 harg4 arg5 harg5 arg6 harg6 arg7 harg7 arg9 arg10 arg11 x0 x1 x2 x3 x4 x5 x6 x7) e5 (p := 31) (s := 63) (s' := 64) (n := 32) (n' := 32) rfl rfl (by omega) (by omega)
    inb_S10000x128_S32x128_63_0_s_2_1 inb_S10000x128_S32x128_64_0_s_2_1 spos_2_1 spos_2_1 p6 p6
  have e6 : Fill (kernelRun0_A.sl.HS2_40 c arg0 harg0 arg1 harg1 arg2 harg2 arg3 harg3 arg4 harg4 arg5 harg5 arg6 harg6 arg7 harg7 arg9 arg10 arg11 x0 x1 x2 x3 x4 x5 x6 x7) (fun i _ => i < 127) (dn P X) := d6
  have p7 := parents M (L := kernelRun0_A.sl.HS2_40 c arg0 harg0 arg1 harg1 arg2 harg2 arg3 harg3 arg4 harg4 arg5 harg5 arg6 harg6 arg7 harg7 arg9 arg10 arg11 x0 x1 x2 x3 x4 x5 x6 x7) e6 arg11.view (p := 63) (n := 64) inb_S10000x128_S64x128_63_0 (fun i _ _ _ => by omega) (M.hd.rowsOf 64)
  have d7 := downLevel hin M (L := kernelRun0_A.sl.HS2_40 c arg0 harg0 arg1 harg1 arg2 harg2 arg3 harg3 arg4 harg4 arg5 harg5 arg6 harg6 arg7 harg7 arg9 arg10 arg11 x0 x1 x2 x3 x4 x5 x6 x7) e6 (p := 63) (s := 127) (s' := 128) (n := 64) (n' := 64) rfl rfl (by omega) (by omega)
    inb_S10000x128_S64x128_127_0_s_2_1 inb_S10000x128_S64x128_128_0_s_2_1 spos_2_1 spos_2_1 p7 p7
  have e7 : Fill (kernelRun0_A.sl.HS2_42 c arg0 harg0 arg1 harg1 arg2 harg2 arg3 harg3 arg4 harg4 arg5 harg5 arg6 harg6 arg7 harg7 arg9 arg10 arg11 x0 x1 x2 x3 x4 x5 x6 x7) (fun i _ => i < 255) (dn P X) := d7
  have p8 := parents M (L := kernelRun0_A.sl.HS2_42 c arg0 harg0 arg1 harg1 arg2 harg2 arg3 harg3 arg4 harg4 arg5 harg5 arg6 harg6 arg7 harg7 arg9 arg10 arg11 x0 x1 x2 x3 x4 x5 x6 x7) e7 arg11.view (p := 127) (n := 128) inb_S10000x128_S128x128_127_0 (fun i _ _ _ => by omega) (M.hd.rowsOf 128)
  have d8 := downLevel hin M (L := kernelRun0_A.sl.HS2_42 c arg0 harg0 arg1 harg1 arg2 harg2 arg3 harg3 arg4 harg4 arg5 harg5 arg6 harg6 arg7 harg7 arg9 arg10 arg11 x0 x1 x2 x3 x4 x5 x6 x7) e7 (p := 127) (s := 255) (s' := 256) (n := 128) (n' := 128) rfl rfl (by omega) (by omega)
    inb_S10000x128_S128x128_255_0_s_2_1 inb_S10000x128_S128x128_256_0_s_2_1 spos_2_1 spos_2_1 p8 p8
  have e8 : Fill (kernelRun0_A.sl.HS2_44 c arg0 harg0 arg1 harg1 arg2 harg2 arg3 harg3 arg4 harg4 arg5 harg5 arg6 harg6 arg7 harg7 arg9 arg10 arg11 x0 x1 x2 x3 x4 x5 x6 x7) (fun i _ => i < 511) (dn P X) := d8
  have p9 := parents M (L := kernelRun0_A.sl.HS2_44 c arg0 harg0 arg1 harg1 arg2 harg2 arg3 harg3 arg4 harg4 arg5 harg5 arg6 harg6 arg7 harg7 arg9 arg10 arg11 x0 x1 x2 x3 x4 x5 x6 x7) e8 arg11.view (p := 255) (n := 256) inb_S10000x128_S256x128_255_0 (fun i _ _ _ => by omega) (M.hd.rowsOf 256)
  have d9 := downLevel hin M (L := kernelRun0_A.sl.HS2_44 c arg0 harg0 arg1 harg1 arg2 harg2 arg3 harg3 arg4 harg4 arg5 harg5 arg6 harg6 arg7 harg7 arg9 arg10 arg11 x0 x1 x2 x3 x4 x5 x6 x7) e8 (p := 255) (s := 511) (s' := 512) (n := 256) (n' := 256) rfl rfl (by omega) (by omega)
    inb_S10000x128_S256x128_511_0_s_2_1 inb_S10000x128_S256x128_512_0_s_2_1 spos_2_1 spos_2_1 p9 p9
  have e9 : Fill (kernelRun0_A.sl.HS2_46 c arg0 harg0 arg1 harg1 arg2 harg2 arg3 harg3 arg4 harg4 arg5 harg5 arg6 harg6 arg7 harg7 arg9 arg10 arg11 x0 x1 x2 x3 x4 x5 x6 x7) (fun i _ => i < 1023) (dn P X) := d9
  have p10 := parents M (L := kernelRun0_A.sl.HS2_46 c arg0 harg0 arg1 harg1 arg2 harg2 arg3 harg3 arg4 harg4 arg5 harg5 arg6 harg6 arg7 harg7 arg9 arg10 arg11 x0 x1 x2 x3 x4 x5 x6 x7) e9 arg11.view (p := 511) (n := 512) inb_S10000x128_S512x128_511_0 (fun i _ _ _ => by omega) (M.hd.rowsOf 512)
  have d10 := downLevel hin M (L := kernelRun0_A.sl.HS2_46 c arg0 harg0 arg1 harg1 arg2 harg2 arg3 harg3 arg4 harg4 arg5 harg5 arg6 harg6 arg7 harg7 arg9 arg10 arg11 x0 x1 x2 x3 x4 x5 x6 x7) e9 (p := 511) (s := 1023) (s' := 1024) (n := 512) (n' := 512) rfl rfl (by omega) (by omega)
    inb_S10000x128_S512x128_1023_0_s_2_1 inb_S10000x128_S512x128_1024_0_s_2_1 spos_2_1 spos_2_1 p10 p10
  have e10 : Fill (kernelRun0_A.sl.HS2_48 c arg0 harg0 arg1 harg1 arg2 harg2 arg3 harg3 arg4 harg4 arg5 harg5 arg6 harg6 arg7 harg7 arg9 arg10 arg11 x0 x1 x2 x3 x4 x5 x6 x7) (fun i _ => i < 2047) (dn P X) := d10
  have p11 := parents M (L := kernelRun0_A.sl.HS2_48 c arg0 harg0 arg1 harg1 arg2 harg2 arg3 harg3 arg4 harg4 arg5 harg5 arg6 harg6 arg7 harg7 arg9 arg10 arg11 x0 x1 x2 x3 x4 x5 x6 x7) e10 arg11.view (p := 1023) (n := 1024) inb_S10000x128_S1024x128_1023_0 (fun i _ _ _ => by omega) (M.hd.rowsOf 1024)
  have d11 := downLevel hin M (L := kernelRun0_A.sl.HS2_48 c arg0 harg0 arg1 harg1 arg2 harg2 arg3 harg3 arg4 harg4 arg5 harg5 arg6 harg6 arg7 harg7 arg9 arg10 arg11 x0 x1 x2 x3 x4 x5 x6 x7) e10 (p := 1023) (s := 2047) (s' := 2048) (n := 1024) (n' := 1024) rfl rfl (by omega) (by omega)
    inb_S10000x128_S1024x128_2047_0_s_2_1 inb_S10000x128_S1024x128_2048_0_s_2_1 spos_2_1 spos_2_1 p11 p11
  have e11 : Fill (kernelRun0_A.sl.HS2_50 c arg0 harg0 arg1 harg1 arg2 harg2 arg3 harg3 arg4 harg4 arg5 harg5 arg6 harg6 arg7 harg7 arg9 arg10 arg11 x0 x1 x2 x3 x4 x5 x6 x7) (fun i _ => i < 4095) (dn P X) := d11
  have p12 := parents M (L := kernelRun0_A.sl.HS2_50 c arg0 harg0 arg1 harg1 arg2 harg2 arg3 harg3 arg4 harg4 arg5 harg5 arg6 harg6 arg7 harg7 arg9 arg10 arg11 x0 x1 x2 x3 x4 x5 x6 x7) e11 arg11.view (p := 2047) (n := 2048) inb_S10000x128_S2048x128_2047_0 (fun i _ _ _ => by omega) (M.hd.rowsOf 2048)
  have d12 := downLevel hin M (L := kernelRun0_A.sl.HS2_50 c arg0 harg0 arg1 harg1 arg2 harg2 arg3 harg3 arg4 harg4 arg5 harg5 arg6 harg6 arg7 harg7 arg9 arg10 arg11 x0 x1 x2 x3 x4 x5 x6 x7) e11 (p := 2047) (s := 4095) (s' := 4096) (n := 2048) (n' := 2048) rfl rfl (by omega) (by omega)
    inb_S10000x128_S2048x128_4095_0_s_2_1 inb_S10000x128_S2048x128_4096_0_s_2_1 spos_2_1 spos_2_1 p12 p12
  have e12 : Fill (kernelRun0_A.sl.HS2_52 c arg0 harg0 arg1 harg1 arg2 harg2 arg3 harg3 arg4 harg4 arg5 harg5 arg6 harg6 arg7 harg7 arg9 arg10 arg11 x0 x1 x2 x3 x4 x5 x6 x7) (fun i _ => i < 8191) (dn P X) := d12
  have p13 := parents M (L := kernelRun0_A.sl.HS2_52 c arg0 harg0 arg1 harg1 arg2 harg2 arg3 harg3 arg4 harg4 arg5 harg5 arg6 harg6 arg7 harg7 arg9 arg10 arg11 x0 x1 x2 x3 x4 x5 x6 x7) e12 arg11.view (p := 4095) (n := 905) inb_S10000x128_S905x128_4095_0 (fun i _ _ _ => by omega) (M.hd.rowsOf 905)
  have d13 := downLevel hin M (L := kernelRun0_A.sl.HS2_52 c arg0 harg0 arg1 harg1 arg2 harg2 arg3 harg3 arg4 harg4 arg5 harg5 arg6 harg6 arg7 harg7 arg9 arg10 arg11 x0 x1 x2 x3 x4 x5 x6 x7) e12 (p := 4095) (s := 8191) (s' := 8192) (n := 905) (n' := 904) rfl rfl (by omega) (by omega)
    inb_S10000x128_S905x128_8191_0_s_2_1 inb_S10000x128_S904x128_8192_0_s_2_1 spos_2_1 spos_2_1 p13 (fewer (n' := 904) (by omega) p13)
  have e13 : Fill (kernelRun0_A.sl.HS2_54 c arg0 harg0 arg1 harg1 arg2 harg2 arg3 harg3 arg4 harg4 arg5 harg5 arg6 harg6 arg7 harg7 arg9 arg10 arg11 x0 x1 x2 x3 x4 x5 x6 x7) (fun i _ => i < 10000) (dn P X) := d13
  have z0 := Fill.none ([] : Writes) (layer P X)
  have z1 := z0.out inb_S10000x128_S1809x64_8191_0 u1.2.bare
  have z2 := z1.out inb_S10000x128_S904x64_4095_0 u2.2.bare
  have z3 := z2.out inb_S10000x128_S1x64_4999_0 u3.2.bare
  have z4 := z3.out inb_S10000x128_S3191x64_5000_0 u4.2.bare
  have z5 := z4.out inb_S10000x128_S2048x64_2047_0 v1.2.bare
  have z6 := z5.out inb_S10000x128_S1024x64_1023_0 v2.2.bare
  have z7 := z6.out inb_S10000x128_S512x64_511_0 v3.2.bare
  have z8 := z7.out inb_S10000x128_S256x64_255_0 v4.2.bare
  have z9 := z8.out inb_S10000x128_S128x64_127_0 v5.2.bare
  have z10 := z9.out inb_S10000x128_S64x64_63_0 v6.2.bare
  have z11 := z10.out inb_S10000x128_S32x64_31_0 v7.2.bare
  have z12 := z11.out inb_S10000x128_S16x64_15_0 v8.2.bare
  have z13 := z12.out inb_S10000x128_S8x64_7_0 v9.2.bare
  have z14 := z13.out inb_S10000x128_S4x64_3_0 v10.2.bare
  have z15 := z14.out inb_S10000x128_S2x64_1_0 v11.2.bare
  have z16 := z15.out inb_S10000x128_S1x64_0_0 v12.2.bare
  have w := (Fill.hidden e13 arg11.view inb_S10000x128_S10000x64_0_64)
  exact z16.outLast (fun i _ j _ => by omega) inb_S10000x128_S10000x64_0_64 w

end Cert.Tree

end
-- ==== Proof.Words.lean ====
/- The weights of a layer in the stacked arguments, and the host operations a program is written in, read at numbers: counters and
   row numbers as 32-bit words, slices at computed rows, products and the logistic function. -/
module

public import proofs.«01_k».proof.Proof.Loads
public import Idealize.ShloMosaic.Lib.Pointwise
public import Idealize.ShloMosaic.Lib.StackMember

@[expose] public section

noncomputable section

namespace Cert.Tree

open Idealize.ShloMosaic
open Finset (range)

/-- The weights of layer `l` in the stacked arguments. -/
def weights (a1 : FVec Ideal ⟨3, ![2, 320, 128]⟩ .f32) (a2 : Arr 2 320) (a3 : FVec Ideal ⟨3, ![2, 320, 64]⟩ .f32)
    (a4 : Arr 2 320) (a5 : FVec Ideal ⟨3, ![2, 320, 64]⟩ .f32) (a6 : Arr 2 320) (a7 : FVec Ideal ⟨3, ![2, 256, 128]⟩ .f32)
    (a8 : Arr 2 256) (a9 : FVec Ideal ⟨3, ![2, 256, 64]⟩ .f32) (a10 : Arr 2 256) (l : ℕ) : Weights where
  Wx o k := at3 a1 l o k
  bx o := at2 a2 l o
  Wl o k := at3 a3 l o k
  bl o := at2 a4 l o
  Wr o k := at3 a5 l o k
  br o := at2 a6 l o
  Vx o k := at3 a7 l o k
  ax o := at2 a8 l o
  Vh o k := at3 a9 l o k
  ah o := at2 a10 l o

/-- The shape of one number. -/
abbrev S0 : Shape := ⟨0, ![]⟩

/-- The 32-bit word of a number. -/
def I (n : ℕ) : IVec S0 32 := constantI S0 32 (BitVec.ofNat 32 n)

theorem toInt_I {a : ℕ} (h : a < 2 ^ 31) : (BitVec.ofNat 32 a).toInt = a := by
  rw [BitVec.toInt_eq_toNat_of_lt] <;> rw [BitVec.toNat_ofNat, Nat.mod_eq_of_lt (by omega)]
  omega

theorem msb_I {a : ℕ} (h : a < 2 ^ 31) : (BitVec.ofNat 32 a).msb = false := by
  rw [BitVec.msb_eq_decide, BitVec.toNat_ofNat, Nat.mod_eq_of_lt (by omega)]
  exact decide_eq_false (by omega)

theorem I_add (a b : ℕ) : addi (I a) (I b) = I (a + b) := funext fun _ => (BitVec.ofNat_add a b).symm

theorem I_mul (a b : ℕ) : muli (I a) (I b) = I (a * b) := funext fun _ => (BitVec.ofNat_mul a b).symm

theorem I_sub {a b : ℕ} (h : b ≤ a) (ha : a < 2 ^ 31) : subi (I a) (I b) = I (a - b) := funext fun _ => by
  show BitVec.ofNat 32 a - BitVec.ofNat 32 b = BitVec.ofNat 32 (a - b)
  apply BitVec.eq_of_toNat_eq
  simp only [BitVec.toNat_sub, BitVec.toNat_ofNat]
  omega

theorem slt_I {a b : ℕ} (ha : a < 2 ^ 31) (hb : b < 2 ^ 31) : (BitVec.ofNat 32 a).slt (BitVec.ofNat 32 b) = decide (a < b) := by
  unfold BitVec.slt
  rw [toInt_I ha, toInt_I hb]
  exact decide_eq_decide.mpr Int.ofNat_lt

theorem I_min {a b : ℕ} (ha : a < 2 ^ 31) (hb : b < 2 ^ 31) : minsi (I a) (I b) = I (min a b) := funext fun _ => by
  show (if (BitVec.ofNat 32 a).slt (BitVec.ofNat 32 b) then BitVec.ofNat 32 a else BitVec.ofNat 32 b) = BitVec.ofNat 32 (min a b)
  rw [slt_I ha hb]
  by_cases h : a < b
  · rw [min_eq_left h.le]; simp [h]
  · rw [min_eq_right (by omega)]; simp [h]

/-- One less, but not below zero. -/
theorem I_pred {a : ℕ} (ha : a < 2 ^ 31) : maxsi (subi (I a) (I 1)) (I 0) = I (a - 1) := by
  rcases Nat.eq_zero_or_pos a with rfl | h
  · funext _
    show (if (BitVec.ofNat 32 0).slt (BitVec.ofNat 32 0 - BitVec.ofNat 32 1) then BitVec.ofNat 32 0 - BitVec.ofNat 32 1 else BitVec.ofNat 32 0) = BitVec.ofNat 32 (0 - 1)
    decide
  · rw [I_sub h ha]
    funext _
    show (if (BitVec.ofNat 32 0).slt (BitVec.ofNat 32 (a - 1)) then BitVec.ofNat 32 (a - 1) else BitVec.ofNat 32 0) = BitVec.ofNat 32 (a - 1)
    rw [slt_I (by omega) (by omega)]
    by_cases h1 : 0 < a - 1
    · simp [h1]
    · rw [show a - 1 = 0 by omega]; simp

theorem corner_I {a b : ℕ} (hb : b < 2 ^ 31) (h0 : 0 < b) : ¬ IntOp.SDivCorner (BitVec.ofNat 32 a) (BitVec.ofNat 32 b) := by
  rintro (h | ⟨_, h⟩)
  · have := congrArg BitVec.toNat h
    rw [BitVec.toNat_ofNat, Nat.mod_eq_of_lt (by omega)] at this
    exact absurd this (by simp; omega)
  · have := congrArg BitVec.toInt h
    rw [toInt_I hb] at this
    have e : (-1 : BitVec 32).toInt = -1 := by decide
    omega

theorem I_div {a b : ℕ} (ha : a < 2 ^ 31) (hb : b < 2 ^ 31) (h0 : 0 < b) : Host.divsi (I a) (I b) = I (a / b) := funext fun _ => by
  show IntOp.divsi .host (BitVec.ofNat 32 a) (BitVec.ofNat 32 b) = BitVec.ofNat 32 (a / b)
  unfold IntOp.divsi
  rw [if_neg (corner_I hb h0)]
  unfold BitVec.sdiv
  rw [msb_I ha, msb_I hb]
  apply BitVec.eq_of_toNat_eq
  have := Nat.div_le_self a b
  simp only [BitVec.udiv_eq, BitVec.toNat_udiv, BitVec.toNat_ofNat]
  rw [Nat.mod_eq_of_lt (by omega), Nat.mod_eq_of_lt (by omega), Nat.mod_eq_of_lt (by omega)]

theorem I_rem {a b : ℕ} (ha : a < 2 ^ 31) (hb : b < 2 ^ 31) (h0 : 0 < b) : Host.remsi (I a) (I b) = I (a % b) := funext fun _ => by
  show IntOp.remsi .host (BitVec.ofNat 32 a) (BitVec.ofNat 32 b) = BitVec.ofNat 32 (a % b)
  unfold IntOp.remsi
  rw [if_neg (corner_I hb h0)]
  unfold BitVec.srem
  rw [msb_I ha, msb_I hb]
  apply BitVec.eq_of_toNat_eq
  have := Nat.mod_le a b
  simp only [BitVec.umod_eq, BitVec.toNat_umod, BitVec.toNat_ofNat]
  rw [Nat.mod_eq_of_lt (show a < 2 ^ 32 by omega), Nat.mod_eq_of_lt (show b < 2 ^ 32 by omega), Nat.mod_eq_of_lt (show a % b < 2 ^ 32 by omega)]

/-- A comparison as a number. -/
def flag (p : Prop) [Decidable p] : FVec Ideal S0 .f32 := fun _ => if p then 1 else 0

theorem I_flag {a b : ℕ} (ha : a < 2 ^ 31) (hb : b < 2 ^ 31) : uitofp .f32 (cmpi .slt (I a) (I b)) = flag (a < b) := funext fun _ => by
  show (((BitVec.ofBool ((BitVec.ofNat 32 a).slt (BitVec.ofNat 32 b))).toNat : ℝ) : EReal) = if a < b then 1 else 0
  rw [slt_I ha hb]
  by_cases h : a < b <;> simp [h]

theorem I_flag' {a b : ℕ} (ha : a < 2 ^ 31) (hb : b < 2 ^ 31) : uitofp .f32 (cmpi .sgt (I a) (I b)) = flag (b < a) := I_flag hb ha

section
variable {a b r c d : ℕ}

/-- Where a slice with two, or three, computed starts starts. -/
abbrev start2 (p q : IVec S0 32) (h : 0 < S0.numel) : Fin 2 → Int := fun k => ((![p, q] : Fin 2 → IVec S0 32) k (Shape.Idx.first h)).toInt
abbrev start3 (o p q : IVec S0 32) (h : 0 < S0.numel) : Fin 3 → Int := fun k => ((![o, p, q] : Fin 3 → IVec S0 32) k (Shape.Idx.first h)).toInt

theorem at2_at (x : Arr a b) (i : Fin a) (j : Fin b) : at2 x i j = x (ix2 i j) := dif_pos ⟨i.isLt, j.isLt⟩

theorem at3_at (x : FVec Ideal ⟨3, ![a, b, c]⟩ .f32) (i : Fin a) (j : Fin b) (k : Fin c) : at3 x i j k = x (ix3 i j k) :=
  dif_pos ⟨i.isLt, j.isLt, k.isLt⟩

theorem slice2 (x : Arr a b) {p q : ℕ} {h0 : 0 < S0.numel} (h : (Sh a b).Slices (fun _ => 0) (Sh r c)) (hp : p + r ≤ a) (hq : q + c ≤ b)
    (ha : p < 2 ^ 31) (hb : q < 2 ^ 31) {i j : ℕ} (hi : i < r) (hj : j < c) :
    at2 (Host.dynamicSlice (Sh r c) x (start2 (I p) (I q) h0) h : Arr r c) i j = at2 x (p + i) (q + j) := by
  refine (at2_at _ ⟨i, hi⟩ ⟨j, hj⟩).trans ((Host.dynamicSlice_apply _ _ _ _).trans ((at2_of x _).trans ?_))
  exact congrArg₂ (at2 x) (congrArg (· + i) (Host.clampedStart_of_le h.1 (start2 (I p) (I q) h0) 0 p (toInt_I ha) hp))
    (congrArg (· + j) (Host.clampedStart_of_le h.1 (start2 (I p) (I q) h0) 1 q (toInt_I hb) hq))

theorem slice3 (x : FVec Ideal ⟨3, ![d, a, b]⟩ .f32) {o p q : ℕ} {h0 : 0 < S0.numel} (h : (⟨3, ![d, a, b]⟩ : Shape).Slices (fun _ => 0) ⟨3, ![1, r, c]⟩)
    (ho : o + 1 ≤ d) (hp : p + r ≤ a) (hq : q + c ≤ b) (hd : o < 2 ^ 31)
    (ha : p < 2 ^ 31) (hb : q < 2 ^ 31) (hc : (⟨3, ![1, r, c]⟩ : Shape).ShapeCasts (Sh r c)) {i j : ℕ} (hi : i < r) (hj : j < c) :
    at2 (shapeCast (Sh r c) (Host.dynamicSlice ⟨3, ![1, r, c]⟩ x (start3 (I o) (I p) (I q) h0) h) hc : Arr r c) i j = at3 x o (p + i) (q + j) := by
  refine (at2_at _ ⟨i, hi⟩ ⟨j, hj⟩).trans ((ValueIdx.shapeCast_1ab_ab_apply _ hc ⟨i, hi⟩ ⟨j, hj⟩).trans
    ((Host.dynamicSlice_apply _ _ _ _).trans ((at3_of x _).trans ?_)))
  have e0 := Host.clampedStart_of_le h.1 (start3 (I o) (I p) (I q) h0) 0 o (toInt_I hd) ho
  have e1 := Host.clampedStart_of_le h.1 (start3 (I o) (I p) (I q) h0) 1 p (toInt_I ha) hp
  have e2 := Host.clampedStart_of_le h.1 (start3 (I o) (I p) (I q) h0) 2 q (toInt_I hb) hq
  show at3 x (_ + 0) (_ + i) (_ + j) = _
  rw [e0, e1, e2]
  rfl

/-- A row written into an array at computed places. -/
theorem update2 (x : Arr a b) (u : Arr 1 c) {p q : ℕ} {h0 : 0 < S0.numel} (h : (Sh a b).Slices (fun _ => 0) (Sh 1 c)) (hp : p + 1 ≤ a)
    (hq : q + c ≤ b) (ha : p < 2 ^ 31) (hb : q < 2 ^ 31) {i j : ℕ} (hi : i < a) (hj : j < b) :
    at2 (Host.dynamicUpdateSlice x u (start2 (I p) (I q) h0) h : Arr a b) i j
      = if i = p ∧ q ≤ j ∧ j < q + c then at2 u 0 (j - q) else at2 x i j := by
  refine (at2_at _ ⟨i, hi⟩ ⟨j, hj⟩).trans ((Host.dynamicUpdateSlice_apply _ _ _ _ _).trans ?_)
  have e0 := Host.clampedStart_of_le h.1 (start2 (I p) (I q) h0) 0 p (toInt_I ha) hp
  have e1 := Host.clampedStart_of_le h.1 (start2 (I p) (I q) h0) 1 q (toInt_I hb) hq
  by_cases hc : i = p ∧ q ≤ j ∧ j < q + c
  · rw [if_pos hc, dif_pos]
    · refine (at2_of u _).trans (congrArg₂ (at2 u) ?_ ?_)
      · show i - Host.clampedStart _ _ h.1 _ 0 = 0
        rw [e0]; omega
      · show j - Host.clampedStart _ _ h.1 _ 1 = j - q
        rw [e1]
    · intro k
      match k with
      | ⟨0, _⟩ =>
        show Host.clampedStart _ _ h.1 _ 0 ≤ i ∧ i < Host.clampedStart _ _ h.1 _ 0 + 1
        rw [e0]; omega
      | ⟨1, _⟩ =>
        show Host.clampedStart _ _ h.1 _ 1 ≤ j ∧ j < Host.clampedStart _ _ h.1 _ 1 + c
        rw [e1]; omega
  · rw [if_neg hc, dif_neg]
    · exact (at2_at x ⟨i, hi⟩ ⟨j, hj⟩).symm
    · intro hk
      have k0 : Host.clampedStart _ _ h.1 (start2 (I p) (I q) h0) 0 ≤ i ∧ i < Host.clampedStart _ _ h.1 (start2 (I p) (I q) h0) 0 + 1 := hk 0
      have k1 : Host.clampedStart _ _ h.1 (start2 (I p) (I q) h0) 1 ≤ j ∧ j < Host.clampedStart _ _ h.1 (start2 (I p) (I q) h0) 1 + c := hk 1
      rw [e0] at k0
      rw [e1] at k1
      omega

theorem update3 (x : FVec Ideal ⟨3, ![d, a, b]⟩ .f32) (u : Arr 1 c) {o p q : ℕ} {h0 : 0 < S0.numel}
    (h : (⟨3, ![d, a, b]⟩ : Shape).Slices (fun _ => 0) ⟨3, ![1, 1, c]⟩) (hu : (Sh 1 c).ShapeCasts ⟨3, ![1, 1, c]⟩) (ho : o + 1 ≤ d) (hp : p + 1 ≤ a)
    (hq : q + c ≤ b) (hd : o < 2 ^ 31) (ha : p < 2 ^ 31) (hb : q < 2 ^ 31) {l i j : ℕ} (hl : l < d) (hi : i < a) (hj : j < b) :
    at3 (Host.dynamicUpdateSlice x (shapeCast ⟨3, ![1, 1, c]⟩ u hu) (start3 (I o) (I p) (I q) h0) h : FVec Ideal ⟨3, ![d, a, b]⟩ .f32) l i j
      = if l = o ∧ i = p ∧ q ≤ j ∧ j < q + c then at2 u 0 (j - q) else at3 x l i j := by
  refine (at3_at _ ⟨l, hl⟩ ⟨i, hi⟩ ⟨j, hj⟩).trans ((Host.dynamicUpdateSlice_apply _ _ _ _ _).trans ?_)
  have e0 := Host.clampedStart_of_le h.1 (start3 (I o) (I p) (I q) h0) 0 o (toInt_I hd) ho
  have e1 := Host.clampedStart_of_le h.1 (start3 (I o) (I p) (I q) h0) 1 p (toInt_I ha) hp
  have e2 := Host.clampedStart_of_le h.1 (start3 (I o) (I p) (I q) h0) 2 q (toInt_I hb) hq
  by_cases hc : l = o ∧ i = p ∧ q ≤ j ∧ j < q + c
  · rw [if_pos hc, dif_pos]
    · rw [show at2 u 0 (j - q) = u (ix2 0 ⟨j - q, by omega⟩) from dif_pos ⟨by omega, by omega⟩]
      refine (congrArg _ (ValueIdx.eq_ix3 _)).trans ((ValueIdx.shapeCast_ab_1ab_apply u hu _ _ _).trans (congrArg u (ext2 ?_ ?_)))
      · show i - Host.clampedStart _ _ h.1 _ 1 = 0
        rw [e1]; omega
      · show j - Host.clampedStart _ _ h.1 _ 2 = j - q
        rw [e2]
    · intro k
      match k with
      | ⟨0, _⟩ =>
        show Host.clampedStart _ _ h.1 _ 0 ≤ l ∧ l < Host.clampedStart _ _ h.1 _ 0 + 1
        rw [e0]; omega
      | ⟨1, _⟩ =>
        show Host.clampedStart _ _ h.1 _ 1 ≤ i ∧ i < Host.clampedStart _ _ h.1 _ 1 + 1
        rw [e1]; omega
      | ⟨2, _⟩ =>
        show Host.clampedStart _ _ h.1 _ 2 ≤ j ∧ j < Host.clampedStart _ _ h.1 _ 2 + c
        rw [e2]; omega
  · rw [if_neg hc, dif_neg]
    · exact (at3_at x ⟨l, hl⟩ ⟨i, hi⟩ ⟨j, hj⟩).symm
    · intro hk
      have k0 : Host.clampedStart _ _ h.1 (start3 (I o) (I p) (I q) h0) 0 ≤ l ∧ l < Host.clampedStart _ _ h.1 (start3 (I o) (I p) (I q) h0) 0 + 1 := hk 0
      have k1 : Host.clampedStart _ _ h.1 (start3 (I o) (I p) (I q) h0) 1 ≤ i ∧ i < Host.clampedStart _ _ h.1 (start3 (I o) (I p) (I q) h0) 1 + 1 := hk 1
      have k2 : Host.clampedStart _ _ h.1 (start3 (I o) (I p) (I q) h0) 2 ≤ j ∧ j < Host.clampedStart _ _ h.1 (start3 (I o) (I p) (I q) h0) 2 + c := hk 2
      rw [e0] at k0
      rw [e1] at k1
      rw [e2] at k2
      omega

theorem at2_addf (x y : Arr a b) (i j : ℕ) : at2 (addf (F := Ideal) (φ := .f32) x y) i j = at2 x i j + at2 y i j := by
  unfold at2
  split
  · rfl
  · exact (add_zero 0).symm

theorem at2_mulf (x y : Arr a b) (i j : ℕ) : at2 (mulf (F := Ideal) (φ := .f32) x y) i j = at2 x i j * at2 y i j := by
  unfold at2
  split
  · rfl
  · exact (mul_zero 0).symm

theorem at2_tanh (x : Arr a b) {i j : ℕ} (hi : i < a) (hj : j < b) : at2 (Host.tanh (F := Ideal) (φ := .f32) x) i j = Ideal.tanh (at2 x i j) :=
  (at2_at _ ⟨i, hi⟩ ⟨j, hj⟩).trans (congrArg Ideal.tanh (at2_at x ⟨i, hi⟩ ⟨j, hj⟩).symm)

theorem at2_splat (x : FVec Ideal S0 .f32) {e : EReal} (hx : ∀ i, x i = e) (h : S0.BroadcastsInDim (Sh a b) ![]) {i j : ℕ} (hi : i < a) (hj : j < b) :
    at2 (broadcastInDim (Sh a b) ![] h x) i j = e :=
  (at2_at _ ⟨i, hi⟩ ⟨j, hj⟩).trans (hx _)

theorem at2_cut (x : Arr 1 b) {o : ℕ} (h : (Sh 1 b).Slices ![0, o] (Sh 1 c)) (ho : o + c ≤ b) {j : ℕ} (hj : j < c) :
    at2 (extractStridedSlice (Sh 1 c) ![0, o] x h) 0 j = at2 x 0 (o + j) := by
  refine (at2_at _ ⟨0, by omega⟩ ⟨j, hj⟩).trans ?_
  rw [show at2 x 0 (o + j) = x (ix2 0 ⟨o + j, by omega⟩) from dif_pos ⟨by omega, by omega⟩]
  exact congrArg x (ext2 rfl rfl)

theorem one_eq (i : S0.Idx) : constant (F := Ideal) S0 .f32 0x3F800000#32 i = 1 := Ideal.ofBits_one_f32

/-- The logistic function as a program of the host writes it. -/
def sg (h : S0.BroadcastsInDim (Sh a b) ![]) (x : Arr a b) : Arr a b :=
  Host.divf (broadcastInDim (Sh a b) ![] h (constant S0 .f32 0x3F800000#32))
    (addf (broadcastInDim (Sh a b) ![] h (constant S0 .f32 0x3F800000#32)) (Host.exp (Host.negf x)))

theorem at2_sg (h : S0.BroadcastsInDim (Sh a b) ![]) (x : Arr a b) {i j : ℕ} (hi : i < a) (hj : j < b) :
    at2 (sg h x) i j = Ideal.logistic (at2 x i j) := by
  refine (at2_at _ ⟨i, hi⟩ ⟨j, hj⟩).trans ((?_ : _ = Ideal.logistic (x (ix2 ⟨i, hi⟩ ⟨j, hj⟩))).trans
    (congrArg Ideal.logistic (at2_at x ⟨i, hi⟩ ⟨j, hj⟩).symm))
  show Ideal.div (constant (F := Ideal) S0 .f32 0x3F800000#32 _) (constant (F := Ideal) S0 .f32 0x3F800000#32 _ + _) = _
  rw [one_eq]
  rfl

/-- A row times a layer's matrix, transposed. -/
theorem at2_lin (D : DotDims (Sh 1 c) (Sh c r) (Sh 1 r)) (hD : D = DotDims.plain 1 c r) (x : Arr 1 c) (W : FVec Ideal ⟨3, ![d, r, c]⟩ .f32) {l : ℕ}
    (hl : l < d) (hd : l < 2 ^ 31) {h0 : 0 < S0.numel} (hs : (⟨3, ![d, r, c]⟩ : Shape).Slices (fun _ => 0) ⟨3, ![1, r, c]⟩)
    (hc : (⟨3, ![1, r, c]⟩ : Shape).ShapeCasts (Sh r c)) (ht : (Sh r c).Transposes [1, 0] (Sh c r)) {o : ℕ} (ho : o < r) :
    at2 (Host.dotGeneral D none x (transpose (Sh c r) [1, 0] (shapeCast (Sh r c) (Host.dynamicSlice ⟨3, ![1, r, c]⟩ W
      (start3 (I l) (I 0) (I 0) h0) hs) hc) ht) : Arr 1 r) 0 o = ∑ k ∈ range c, at2 x 0 k * at3 W l o k := by
  subst hD
  refine (at2_at _ ⟨0, by omega⟩ ⟨o, ho⟩).trans ((Idealize.ShloMosaic.StackMember.dotGeneral_plain_apply _ _ _ _ _).trans ?_)
  rw [Finset.sum_range]
  refine Finset.sum_congr rfl fun k _ => congrArg₂ (· * ·) (at2_at x ⟨0, by omega⟩ k).symm ?_
  refine (transpose_apply _ _ ht _ (ix2 ⟨o, ho⟩ k) fun e => match e with | ⟨0, _⟩ => rfl | ⟨1, _⟩ => rfl).trans ((at2_at _ ⟨o, ho⟩ k).symm.trans ?_)
  refine (slice3 W hs (by omega) (by omega) (by omega) hd (by omega) (by omega) hc ho k.isLt).trans ?_
  rw [Nat.zero_add, Nat.zero_add]

end

end Cert.Tree

end
-- ==== Proof.Host.lean ====
/- What the host hands the kernel: the weights of both layers transposed, stacked and padded, and the biases added. -/
module

public import proofs.«01_k».proof.Proof.Kern
public import proofs.«01_k».proof.Proof.Words
public import Idealize.ShloMosaic.Lib.Claim
public import Idealize.ShloMosaic.Lib.Pointwise

@[expose] public section

noncomputable section

namespace Cert.Tree

open Idealize.ShloMosaic Idealize.ShloMosaic.TcCoe
open Cert.KernelIdeal Cert.KernelIdeal.Gen

/-- The number the host pads with. -/
def zero : FVec Ideal S_ .f32 := sitofp .f32 (constantI S_ 32 0#32)

def wallOf (a1 : FVec Ideal S2x320x128 .f32) (a3 a5 : FVec Ideal S2x320x64 .f32) : FVec Ideal S2x384x384 .f32 :=
  concatenate S2x384x384 1
    [⟨S2x128x384, pad S2x128x384 ![0, 0, 0] ![0, 0, 64] ![0, 0, 0] (transpose S2x128x320 [0, 2, 1] a1 transposes_S2x320x128_S2x128x320_0_2_1) zero pads_S2x128x320_S2x128x384_000_000_0640 h_S_⟩,
     ⟨S2x128x384, pad S2x128x384 ![0, 64, 0] ![0, 0, 64] ![0, 0, 0] (transpose S2x64x320 [0, 2, 1] a3 transposes_S2x320x64_S2x64x320_0_2_1) zero pads_S2x64x320_S2x128x384_000_6400_0640 h_S_⟩,
     ⟨S2x128x384, pad S2x128x384 ![0, 64, 0] ![0, 0, 64] ![0, 0, 0] (transpose S2x64x320 [0, 2, 1] a5 transposes_S2x320x64_S2x64x320_0_2_1) zero pads_S2x64x320_S2x128x384_000_6400_0640 h_S_⟩]
    concatenates_S2x128x384_S2x128x384_S2x128x384_S2x384x384_d1

def downX (a7 : FVec Ideal S2x256x128 .f32) : FVec Ideal S2x128x256 .f32 :=
  transpose S2x128x256 [0, 2, 1] a7 transposes_S2x256x128_S2x128x256_0_2_1

def downH' (a9 : FVec Ideal S2x256x64 .f32) : FVec Ideal S2x128x256 .f32 :=
  pad S2x128x256 ![0, 64, 0] ![0, 0, 0] ![0, 0, 0] (transpose S2x64x256 [0, 2, 1] a9 transposes_S2x256x64_S2x64x256_0_2_1) zero
    pads_S2x64x256_S2x128x256_000_6400_000 h_S_

/-- A bias padded to 384 numbers. -/
def biasOf (b : FVec Ideal S2x320 .f32) : FVec Ideal S2x1x384 .f32 :=
  broadcastInDim S2x1x384 ![0, 2] bcast_S2x384_S2x1x384_0_2 (pad S2x384 ![0, 0] ![0, 64] ![0, 0] b zero pads_S2x320_S2x384_000_0640 h_S_)

def downB (b : FVec Ideal S2x256 .f32) : FVec Ideal S2x1x256 .f32 :=
  broadcastInDim S2x1x256 ![0, 2] bcast_S2x256_S2x1x256_0_2 b

section
variable (m : (ℓ : Loc nD τ KernelIdeal.sig) → Buf (Elt Ideal) ℓ) (c : Dev nD)

theorem entry6 : V m c main_v6 = wallOf (m ((c.tc : Thread nD τ).loc main_arg1)) (m ((c.tc : Thread nD τ).loc main_arg3))
    (m ((c.tc : Thread nD τ).loc main_arg5)) := rfl

theorem entry7 : V m c main_v7 = downX (m ((c.tc : Thread nD τ).loc main_arg7)) := rfl

theorem entry9 : V m c main_v9 = downH' (m ((c.tc : Thread nD τ).loc main_arg9)) := rfl

theorem entry11 : V m c main_v11 = biasOf (m ((c.tc : Thread nD τ).loc main_arg2)) := rfl

theorem entry15 : V m c main_v15 = biasOf (addf (F := Ideal) (φ := .f32) (s := S2x320) (addf (F := Ideal) (φ := .f32) (s := S2x320) (m ((c.tc : Thread nD τ).loc main_arg2))
    (m ((c.tc : Thread nD τ).loc main_arg4))) (m ((c.tc : Thread nD τ).loc main_arg6))) := rfl

theorem entry18 : V m c main_v18 = biasOf (addf (F := Ideal) (φ := .f32) (s := S2x320) (m ((c.tc : Thread nD τ).loc main_arg2))
    (m ((c.tc : Thread nD τ).loc main_arg4))) := rfl

theorem entry20 : V m c main_v20 = downB (addf (F := Ideal) (φ := .f32) (s := S2x256) (m ((c.tc : Thread nD τ).loc main_arg8))
    (m ((c.tc : Thread nD τ).loc main_arg10))) := rfl

end

theorem zero_eq (i : S_.Idx) : zero i = 0 := by
  show (((0#32 : BitVec 32).toInt : ℝ) : EReal) = 0
  simp

theorem at3_pos {a b c : ℕ} (x : FVec Ideal ⟨3, ![a, b, c]⟩ .f32) {l i j : ℕ} (hl : l < a) (hi : i < b) (hj : j < c) :
    at3 x l i j = x (ix3 ⟨l, hl⟩ ⟨i, hi⟩ ⟨j, hj⟩) := dif_pos ⟨hl, hi, hj⟩

theorem at2_pos {a b : ℕ} (x : Arr a b) {i j : ℕ} (hi : i < a) (hj : j < b) :
    at2 x i j = x (ix2 ⟨i, hi⟩ ⟨j, hj⟩) := dif_pos ⟨hi, hj⟩

section
variable (a1 : FVec Ideal S2x320x128 .f32) (a3 a5 : FVec Ideal S2x320x64 .f32) {l k o : ℕ}

theorem wall_own (hl : l < 2) (hk : k < 128) (ho : o < 320) : at3 (wallOf a1 a3 a5) l k o = at3 a1 l o k := by
  rw [at3_pos _ hl (by omega) (by omega), at3_pos a1 hl ho hk]
  unfold wallOf
  pointwise
  rw [dif_pos hk, dif_pos ⟨hl, hk, ho⟩]

theorem wall_zl (hl : l < 2) (hk : k < 64) (ho : o < 320) : at3 (wallOf a1 a3 a5) l (128 + k) o = 0 := by
  rw [at3_pos _ hl (by omega) (by omega)]
  unfold wallOf
  pointwise
  split_ifs <;> first | exact zero_eq _ | (exfalso; omega)

theorem wall_left (hl : l < 2) (hk : k < 64) (ho : o < 320) : at3 (wallOf a1 a3 a5) l (192 + k) o = at3 a3 l o k := by
  rw [at3_pos _ hl (by omega) (by omega), at3_pos a3 hl ho hk]
  unfold wallOf
  pointwise
  rw [dif_neg (by omega), dif_pos (by omega), dif_pos (by omega)]
  congr 3
  omega

theorem wall_zr (hl : l < 2) (hk : k < 64) (ho : o < 320) : at3 (wallOf a1 a3 a5) l (256 + k) o = 0 := by
  rw [at3_pos _ hl (by omega) (by omega)]
  unfold wallOf
  pointwise
  split_ifs <;> first | exact zero_eq _ | (exfalso; omega)

theorem wall_right (hl : l < 2) (hk : k < 64) (ho : o < 320) : at3 (wallOf a1 a3 a5) l (320 + k) o = at3 a5 l o k := by
  rw [at3_pos _ hl (by omega) (by omega), at3_pos a5 hl ho hk]
  unfold wallOf
  pointwise
  rw [dif_neg (by omega), dif_neg (by omega), dif_pos (by omega)]
  congr 3
  omega

theorem biasOf_eq (b : FVec Ideal S2x320 .f32) (hl : l < 2) (ho : o < 320) : at3 (biasOf b) l 0 o = at2 b l o := by
  rw [at3_pos _ hl (by omega) (by omega), at2_pos b hl ho]
  unfold biasOf
  pointwise
  rw [dif_pos ⟨hl, ho⟩]

theorem downX_eq (a : FVec Ideal S2x256x128 .f32) (hl : l < 2) (hk : k < 128) (ho : o < 256) :
    at3 (downX a) l k o = at3 a l o k := by
  rw [at3_pos _ hl hk ho, at3_pos a hl ho hk]
  unfold downX
  pointwise

theorem downH_zero (a : FVec Ideal S2x256x64 .f32) (hl : l < 2) (hk : k < 64) (ho : o < 256) :
    at3 (downH' a) l k o = 0 := by
  rw [at3_pos _ hl (by omega) ho]
  unfold downH'
  pointwise
  rw [dif_neg (by omega), zero_eq]

theorem downH_eq (a : FVec Ideal S2x256x64 .f32) (hl : l < 2) (hk : k < 64) (ho : o < 256) :
    at3 (downH' a) l (64 + k) o = at3 a l o k := by
  rw [at3_pos _ hl (by omega) ho, at3_pos a hl ho hk]
  unfold downH'
  pointwise
  rw [dif_pos (by omega)]

theorem downB_eq (b : FVec Ideal S2x256 .f32) (hl : l < 2) (ho : o < 256) : at3 (downB b) l 0 o = at2 b l o := by
  rw [at3_pos _ hl (by omega) ho, at2_pos b hl ho]
  unfold downB
  pointwise

theorem sum_eq {r : ℕ} (x y : Arr 2 r) {l o : ℕ} (hl : l < 2) (ho : o < r) :
    at2 (addf (F := Ideal) (φ := .f32) x y) l o = at2 x l o + at2 y l o := by
  rw [at2_pos _ hl ho, at2_pos x hl ho, at2_pos y hl ho]
  rfl

end

/-- The arrays the host operations make are what one layer's run needs. -/
theorem host (a1 : FVec Ideal S2x320x128 .f32) (a2 : FVec Ideal S2x320 .f32) (a3 : FVec Ideal S2x320x64 .f32) (a4 : FVec Ideal S2x320 .f32)
    (a5 : FVec Ideal S2x320x64 .f32) (a6 : FVec Ideal S2x320 .f32) (a7 : FVec Ideal S2x256x128 .f32) (a8 : FVec Ideal S2x256 .f32)
    (a9 : FVec Ideal S2x256x64 .f32) (a10 : FVec Ideal S2x256 .f32) {l : ℕ} (hl : l < 2) :
    Host (weights a1 a2 a3 a4 a5 a6 a7 a8 a9 a10 l) l (wallOf a1 a3 a5) (biasOf a2)
      (biasOf (addf (F := Ideal) (φ := .f32) (s := S2x320) (addf (F := Ideal) (φ := .f32) (s := S2x320) a2 a4) a6))
      (biasOf (addf (F := Ideal) (φ := .f32) (s := S2x320) a2 a4)) (downX a7) (downH' a9)
      (downB (addf (F := Ideal) (φ := .f32) (s := S2x256) a8 a10)) where
  wall := ⟨fun k hk o ho => wall_own _ _ _ hl hk ho, fun k hk o ho => wall_zl _ _ _ hl hk ho, fun k hk o ho => wall_left _ _ _ hl hk ho,
    fun k hk o ho => wall_zr _ _ _ hl hk ho, fun k hk o ho => wall_right _ _ _ hl hk ho⟩
  down := ⟨fun k hk o ho => downX_eq _ hl hk ho, fun k hk o ho => downH_zero _ hl hk ho, fun k hk o ho => downH_eq _ hl hk ho,
    fun o ho => (downB_eq _ hl ho).trans (sum_eq a8 a10 hl ho)⟩
  own _ ho := biasOf_eq _ hl ho
  both o ho := by
    rw [biasOf_eq _ hl ho, sum_eq (r := 320) _ a6 hl ho, sum_eq (r := 320) a2 a4 hl ho]; rfl
  left o ho := by
    rw [biasOf_eq _ hl ho, sum_eq (r := 320) a2 a4 hl ho]; rfl

end Cert.Tree

end
-- ==== Proof.Go.lean ====
/- The launch: what one run of the kernel leaves where, for any interpretation of its numbers. -/
module

public import proofs.«01_k».proof.Proof.Gen.KernelIdeal.Frame.RunA
public import Idealize.ShloMosaic.Lib.Claim
public import Idealize.ShloMosaic.Lib.Pipeline.Value

@[expose] public section

set_option maxRecDepth 16384

noncomputable section

namespace Cert.Go

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every place `i`, `j` of `A` lies in one of the written rectangles. -/
def Reach (L : List (View.Piece (Elt F) S10000x128 .f32)) (A : ℕ → ℕ → Prop) : Prop :=
  ∀ y : S10000x128.Idx, A (y 0) (y 1) → ∃ pc ∈ L, y ∈ pc.1.set

theorem Reach.none (L : List (View.Piece (Elt F) S10000x128 .f32)) : Reach L fun _ _ => False := fun _ h => h.elim

theorem Reach.unit {L : List (View.Piece (Elt F) S10000x128 .f32)} {A : ℕ → ℕ → Prop} (h : Reach L A) {s o n w : ℕ}
    (inb : ∀ a : Fin 2, (![s, o] : Fin 2 → ℕ) a + (![n, w] : Fin 2 → ℕ) a ≤ S10000x128.size a)
    {v : Vec F (Rect.unit (s := S10000x128) ![s, o] ![n, w] inb).shape .f32} :
    Reach (⟨Rect.unit (s := S10000x128) ![s, o] ![n, w] inb, v⟩ :: L)
      fun i j => A i j ∨ (s ≤ i ∧ i < s + n ∧ o ≤ j ∧ j < o + w) := by
  intro y hy
  rcases hy with hy | hy
  · obtain ⟨pc, hp, hm⟩ := h y hy
    exact ⟨pc, List.mem_cons_of_mem _ hp, hm⟩
  · refine ⟨_, List.mem_cons_self, ?_⟩
    rw [Rect.mem_set_unit]
    intro a
    match a with
    | ⟨0, _⟩ => exact ⟨hy.1, hy.2.1⟩
    | ⟨1, _⟩ => exact ⟨hy.2.2.1, hy.2.2.2⟩

theorem Reach.all {L : List (View.Piece (Elt F) S10000x128 .f32)} {A : ℕ → ℕ → Prop} (h : Reach L A)
    (hA : ∀ i < 10000, ∀ j < 128, A i j) (y : S10000x128.Idx) : ∃ pc ∈ L, y ∈ pc.1.set :=
  h y (hA _ (y 0).isLt _ (y 1).isLt)

section
variable (c : Dev nD)
  (arg0 : Memref sig .tc .vmem S10000x128 .f32) (harg0 : arg0.IsWhole)
  (arg1 : Memref sig .tc .vmem S2x384x384 .f32) (harg1 : arg1.IsWhole)
  (arg2 : Memref sig .tc .vmem S2x1x384 .f32) (harg2 : arg2.IsWhole)
  (arg3 : Memref sig .tc .vmem S2x1x384 .f32) (harg3 : arg3.IsWhole)
  (arg4 : Memref sig .tc .vmem S2x1x384 .f32) (harg4 : arg4.IsWhole)
  (arg5 : Memref sig .tc .vmem S2x128x256 .f32) (harg5 : arg5.IsWhole)
  (arg6 : Memref sig .tc .vmem S2x128x256 .f32) (harg6 : arg6.IsWhole)
  (arg7 : Memref sig .tc .vmem S2x1x256 .f32) (harg7 : arg7.IsWhole)
  (arg8 : Memref sig .tc .vmem S10000x128 .f32) (harg8 : arg8.IsWhole)
  (arg9 : Memref sig .tc .vmem S10000x128 .f32) (harg9 : arg9.IsWhole)
  (arg10 : Memref sig .tc .vmem S10000x128 .f32) (harg10 : arg10.IsWhole)
  (arg11 : Memref sig .tc .vmem S10000x128 .f32) (harg11 : arg11.IsWhole)
  (x0 : Vec F S10000x128 .f32)  (x1 : Vec F S2x384x384 .f32)  (x2 : Vec F S2x1x384 .f32)
  (x3 : Vec F S2x1x384 .f32)  (x4 : Vec F S2x1x384 .f32)  (x5 : Vec F S2x128x256 .f32)
  (x6 : Vec F S2x128x256 .f32)  (x7 : Vec F S2x1x256 .f32)

/-- The run's writes leave no place of the result out. -/
theorem cover (y : S10000x128.Idx) :
    ∃ pc ∈ (kernelRun0_A c arg0 harg0 arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  Reach.all
    ((((((((((((((((((Reach.none _).unit
    (s := 8191) (o := 0) (n := 1809) (w := 64) inb_S10000x128_S1809x64_8191_0).unit
    (s := 4095) (o := 0) (n := 904) (w := 64) inb_S10000x128_S904x64_4095_0).unit
    (s := 4999) (o := 0) (n := 1) (w := 64) inb_S10000x128_S1x64_4999_0).unit
    (s := 5000) (o := 0) (n := 3191) (w := 64) inb_S10000x128_S3191x64_5000_0).unit
    (s := 2047) (o := 0) (n := 2048) (w := 64) inb_S10000x128_S2048x64_2047_0).unit
    (s := 1023) (o := 0) (n := 1024) (w := 64) inb_S10000x128_S1024x64_1023_0).unit
    (s := 511) (o := 0) (n := 512) (w := 64) inb_S10000x128_S512x64_511_0).unit
    (s := 255) (o := 0) (n := 256) (w := 64) inb_S10000x128_S256x64_255_0).unit
    (s := 127) (o := 0) (n := 128) (w := 64) inb_S10000x128_S128x64_127_0).unit
    (s := 63) (o := 0) (n := 64) (w := 64) inb_S10000x128_S64x64_63_0).unit
    (s := 31) (o := 0) (n := 32) (w := 64) inb_S10000x128_S32x64_31_0).unit
    (s := 15) (o := 0) (n := 16) (w := 64) inb_S10000x128_S16x64_15_0).unit
    (s := 7) (o := 0) (n := 8) (w := 64) inb_S10000x128_S8x64_7_0).unit
    (s := 3) (o := 0) (n := 4) (w := 64) inb_S10000x128_S4x64_3_0).unit
    (s := 1) (o := 0) (n := 2) (w := 64) inb_S10000x128_S2x64_1_0).unit
    (s := 0) (o := 0) (n := 1) (w := 64) inb_S10000x128_S1x64_0_0).unit
    (s := 0) (o := 64) (n := 10000) (w := 64) inb_S10000x128_S10000x64_0_64)
    (fun i hi j hj => by omega) y

/-- What the run leaves in the result's buffer. -/
def left : Vec F S10000x128 .f32 :=
  VO0_8.read (Elt F) (VO0_8.writes (Elt F) VO0_8.junk (kernelRun0_A c arg0 harg0 arg1 harg1 arg2 harg2 arg3 harg3 arg4 harg4 arg5 harg5 arg6 harg6 arg7 harg7 arg8 harg8 arg9 harg9 arg10 harg10 arg11 harg11 x0 x1 x2 x3 x4 x5 x6 x7).1)
end

variable (m : (ℓ : Loc nD τ sig) → Buf (Elt F) ℓ) (ρ : Dev nD → PrngReg)

/-- What it leaves there at point `t`. -/
def leftAt (c : Dev nD) (t : Fin cfg0.N) : Vec F S10000x128 .f32 :=
  left c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)

/-- The launch's data: inputs keep their blocks, the result gets what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => leftAt m c t
  Φ _ := Pipeline.ΦA spec0 c
  q _ := fullShare
  owed _ := 0

theorem start (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = leftAt m c t := by dsimp only [dats]

theorem before0 (c : Dev nD) (t : Fin cfg0.N) (d) : (dats m 0 c).before 0 t d = iblk m c 0 t :=
  before0_0_of m (dats m 0 c) (start m c 0) (after0 m c) t d
theorem before1 (c : Dev nD) (t : Fin cfg0.N) (d) : (dats m 0 c).before 1 t d = iblk m c 1 t :=
  before0_1_of m (dats m 0 c) (start m c 1) (after1 m c) t d
theorem before2 (c : Dev nD) (t : Fin cfg0.N) (d) : (dats m 0 c).before 2 t d = iblk m c 2 t :=
  before0_2_of m (dats m 0 c) (start m c 2) (after2 m c) t d
theorem before3 (c : Dev nD) (t : Fin cfg0.N) (d) : (dats m 0 c).before 3 t d = iblk m c 3 t :=
  before0_3_of m (dats m 0 c) (start m c 3) (after3 m c) t d
theorem before4 (c : Dev nD) (t : Fin cfg0.N) (d) : (dats m 0 c).before 4 t d = iblk m c 4 t :=
  before0_4_of m (dats m 0 c) (start m c 4) (after4 m c) t d
theorem before5 (c : Dev nD) (t : Fin cfg0.N) (d) : (dats m 0 c).before 5 t d = iblk m c 5 t :=
  before0_5_of m (dats m 0 c) (start m c 5) (after5 m c) t d
theorem before6 (c : Dev nD) (t : Fin cfg0.N) (d) : (dats m 0 c).before 6 t d = iblk m c 6 t :=
  before0_6_of m (dats m 0 c) (start m c 6) (after6 m c) t d
theorem before7 (c : Dev nD) (t : Fin cfg0.N) (d) : (dats m 0 c).before 7 t d = iblk m c 7 t :=
  before0_7_of m (dats m 0 c) (start m c 7) (after7 m c) t d

set_option maxHeartbeats 1200000 in
/-- The body's triple at any point, window by window. -/
theorem body_at (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d)))
    ⊢ wp frame (wpE (defs₀ (F := F)) Variants.none c none) Set.univ (bodyAt0 t) (fun _ =>
    iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t)
      ∗ owns (c : Thread nD τ) (ms0_4 t) fullShare ((dats m 0 c).after 4 t)
      ∗ owns (c : Thread nD τ) (ms0_5 t) fullShare ((dats m 0 c).after 5 t)
      ∗ owns (c : Thread nD τ) (ms0_6 t) fullShare ((dats m 0 c).after 6 t)
      ∗ owns (c : Thread nD τ) (ms0_7 t) fullShare ((dats m 0 c).after 7 t)
      ∗ owns (c : Thread nD τ) (ms0_8 t) fullShare ((dats m 0 c).after 8 t))) := by
  unfold bodyAt0
  simp only [before0, before1, before2, before3, before4, before5, before6, before7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8, PhiA0_eq]
  unfold leftAt left
  iintro ⟨⟨⟨S0, S1, S2⟩, G⟩, O, ⟨%b0, B0⟩, ⟨%b1, B1⟩, ⟨%b2, B2⟩, ⟨%b3, B3⟩, ⟨%b4, B4⟩, ⟨%b5, B5⟩, ⟨%b6, B6⟩, ⟨%b7, B7⟩, ⟨%b8, B8⟩⟩
  iapply (kernelRun0_A c _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2.2 Set.univ _
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexists _; iexact B8
  isplitl [S0]; · iexact S0
  isplitl [S1]; · iexact S1
  isplitl [S2]; · iexact S2
  iintro ⟨B0, B1, B2, B3, B4, B5, B6, B7, ⟨%e, B8⟩, ⟨%g0, S0⟩, ⟨%g1, S1⟩, S2⟩
  isplitl [S0 S1 S2 G]
  · isplitl [S0 S1 S2]
    · isplitl [S0]
      · iexists _; unfold owns; iexists _; isplitr
        swap; · iexact S0
        ipureintro; rfl
      isplitl [S1]
      · iexists _; unfold owns; iexists _; isplitr
        swap; · iexact S1
        ipureintro; rfl
      iexact S2
    iexact G
  isplitl [O]; · iexact O
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  unfold owns; iexists _; isplitr
  swap; · iexact B8
  ipureintro; exact View.read_writes_of_cover _ _ _ _ _ (cover c _ _ _ _ _ _ _ _ _ _ _ _ _ _ _ _ _ _ _ _ _ _ _ _ _ _ _ _ _ _ _ _)

theorem row (t : Fin cfg0.N) :
    defs₀ (F := F) .tc cfg0.body (cfg0.bodyArgs t (cfg0.slots t)) = bodyAt0 t := by
  unfold defs₀; rw [Defs.onTc_tc]

theorem bodies (c : Dev nD) : BodyObligation (dats (F := F) m 0 c) (defs₀ (F := F)) Variants.none () Set.univ := fun t => by
  rw [bigSep_W0, bigSep_W0, row]
  exact triple_restated (body_at m c t) rfl .rfl fun _ => .rfl

-- the library's implicit arguments are found by unifying its conclusion with this one
set_option backward.isDefEq.respectTransparency.types false in
/-- Every execution ends, its arrays as the data says and every counter at zero. -/
theorem whole : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (bodies m c).loose) (hshare := fun c => (dats m 0 c).share_full fun _ => rfl)
    (howed := fun _ _ => rfl) (V := V m) (hmain := hmain m Variants.none) (hA := start m) (hΦ := fun _ _ => rfl)

theorem posted : θ_run defs (onTc (τ := τ) (main (F := F))) (s₀ m ρ) (Pipeline.FramePost cfgs (dats m) 0 (V m)) :=
  (θ_run defs _ _).mono (fun _ h => h.1) (whole m ρ)

/-- The arguments are as they were. -/
def Kept (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)

theorem kept : θ_run defs (onTc (τ := τ) (main (F := F))) ⟨m, fun _ => 0, ρ⟩ (fun r => ∀ c : Dev nD, Kept m r.2.mem c) :=
  frame_of m ρ (dats m) (start m) (posted m ρ)

/-- The one run of the kernel: it ends with the result at the data's last array, the arguments kept and the counters at zero. -/
theorem run_main : θ_run defs (onTc (τ := τ) (main (F := F))) ⟨m, fun _ => 0, ρ⟩ (fun r =>
    ((∀ c : Dev nD, Kept m r.2.mem c) ∧ r.2.sem = fun _ => 0)
    ∧ ∀ c : Dev nD, r.2.mem ((c.tc : Thread nD τ).loc main_v21) = (dats m 0 c).arrAt 8 cfg0.N) :=
  θ_run_and (θ_run_and (kept m ρ) ((θ_run defs _ _).mono (fun _ h => h.2) (whole m ρ)))
    ((θ_run defs _ _).mono (fun _ h c => (h.1 c).1 8) (whole m ρ))

/-! The result's one block. -/

theorem apart : ∀ t t' : Fin cfg0.N, (cfg0.win 8).flush t = true → (cfg0.win 8).flush t' = true → t ≠ t' →
    Disjoint ((cfg0.win 8).blk t).view.set ((cfg0.win 8).blk t').view.set :=
  fun t t' _ _ hne => absurd (by have := t.isLt; have := t'.isLt; have : cfg0.N = 1 := rfl; exact Fin.ext (by omega)) hne

theorem block (c : Dev nD) (t : Fin cfg0.N) (hf : (cfg0.win 8).flush t = true) :
    ((cfg0.win 8).blk t).view.read (Elt F) ((dats m 0 c).arrAt 8 cfg0.N) = (cfg0.win 8).cut (grid0.coords t) (leftAt m c t) := by
  rw [(dats m 0 c).read_blk_arrAt_eq_flushed 8 apart cfg0.N t t.isLt hf]
  show (cfg0.win 8).cut (grid0.coords t) ((dats m 0 c).after 8 t) = _
  rw [after8]

end Cert.Go

end
-- ==== Proof.Out.lean ====
/- What the kernel's result array holds: the second layer's output. -/
module

public import proofs.«01_k».proof.Proof.Low
public import proofs.«01_k».proof.Proof.High
public import proofs.«01_k».proof.Proof.Host
public import proofs.«01_k».proof.Proof.Go

@[expose] public section

set_option maxRecDepth 16384

noncomputable section

namespace Cert.Go

open Idealize.ShloMosaic Idealize.ShloMosaic.TcCoe
open Cert.KernelIdeal Cert.KernelIdeal.Gen
open Cert.Tree (Weights weights at2 Arr layer Fill)

section
variable (c : Dev nD)
  (arg0 : Memref sig .tc .vmem S10000x128 .f32) (harg0 : arg0.IsWhole)
  (arg1 : Memref sig .tc .vmem S2x384x384 .f32) (harg1 : arg1.IsWhole)
  (arg2 : Memref sig .tc .vmem S2x1x384 .f32) (harg2 : arg2.IsWhole)
  (arg3 : Memref sig .tc .vmem S2x1x384 .f32) (harg3 : arg3.IsWhole)
  (arg4 : Memref sig .tc .vmem S2x1x384 .f32) (harg4 : arg4.IsWhole)
  (arg5 : Memref sig .tc .vmem S2x128x256 .f32) (harg5 : arg5.IsWhole)
  (arg6 : Memref sig .tc .vmem S2x128x256 .f32) (harg6 : arg6.IsWhole)
  (arg7 : Memref sig .tc .vmem S2x1x256 .f32) (harg7 : arg7.IsWhole)
  (arg8 : Memref sig .tc .vmem S10000x128 .f32) (harg8 : arg8.IsWhole)
  (arg9 : Memref sig .tc .vmem S10000x128 .f32) (harg9 : arg9.IsWhole)
  (arg10 : Memref sig .tc .vmem S10000x128 .f32) (harg10 : arg10.IsWhole)
  (arg11 : Memref sig .tc .vmem S10000x128 .f32) (harg11 : arg11.IsWhole)
  (x0 : Vec Ideal S10000x128 .f32)  (x1 : Vec Ideal S2x384x384 .f32)  (x2 : Vec Ideal S2x1x384 .f32)
  (x3 : Vec Ideal S2x1x384 .f32)  (x4 : Vec Ideal S2x1x384 .f32)  (x5 : Vec Ideal S2x128x256 .f32)
  (x6 : Vec Ideal S2x128x256 .f32)  (x7 : Vec Ideal S2x1x256 .f32)

/-- A run leaves two layers of what it was given. -/
theorem left_at {P Q : Weights} (H : Tree.Host P 0 x1 x2 x3 x4 x5 x6 x7) (H' : Tree.Host Q 1 x1 x2 x3 x4 x5 x6 x7) (y : S10000x128.Idx) :
    left (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 y
      = layer Q (layer P (at2 x0)) (y 0) (y 1) :=
  (View.read_writes_junk_apply_eq_canon _ y _).trans
    (Tree.high c arg0 harg0 arg1 harg1 arg2 harg2 arg3 harg3 arg4 harg4 arg5 harg5 arg6 harg6 arg7 harg7 arg8 harg8 arg9 harg9 arg10 harg10 arg11 harg11 x0 x1 x2 x3 x4 x5 x6 x7 H'
      (Tree.low c arg0 harg0 arg1 harg1 arg2 harg2 arg3 harg3 arg4 harg4 arg5 harg5 arg6 harg6 arg7 harg7 arg10 arg11 x0 x1 x2 x3 x4 x5 x6 x7 H) y trivial)

end

variable (m : (ℓ : Loc nD τ sig) → Buf (Elt Ideal) ℓ) (c : Dev nD)

/-- The launch's one point. -/
abbrev t0 : Fin cfg0.N := t0_0

theorem in0 : iblk m c 0 t0 = m ((c.tc : Thread nD τ).loc main_arg0) :=
  Memref.read_access_unit_zero (Elt Ideal) main_arg0 (funext fun a => by fin_cases a <;> rfl) (fun a => by fin_cases a <;> decide)
    (V m c main_arg0)
theorem in1 : iblk m c 1 t0 = V m c main_v6 :=
  Memref.read_access_unit_zero (Elt Ideal) main_v6 (funext fun a => by fin_cases a <;> rfl) (fun a => by fin_cases a <;> decide) (V m c main_v6)
theorem in2 : iblk m c 2 t0 = V m c main_v11 :=
  Memref.read_access_unit_zero (Elt Ideal) main_v11 (funext fun a => by fin_cases a <;> rfl) (fun a => by fin_cases a <;> decide) (V m c main_v11)
theorem in3 : iblk m c 3 t0 = V m c main_v15 :=
  Memref.read_access_unit_zero (Elt Ideal) main_v15 (funext fun a => by fin_cases a <;> rfl) (fun a => by fin_cases a <;> decide) (V m c main_v15)
theorem in4 : iblk m c 4 t0 = V m c main_v18 :=
  Memref.read_access_unit_zero (Elt Ideal) main_v18 (funext fun a => by fin_cases a <;> rfl) (fun a => by fin_cases a <;> decide) (V m c main_v18)
theorem in5 : iblk m c 5 t0 = V m c main_v7 :=
  Memref.read_access_unit_zero (Elt Ideal) main_v7 (funext fun a => by fin_cases a <;> rfl) (fun a => by fin_cases a <;> decide) (V m c main_v7)
theorem in6 : iblk m c 6 t0 = V m c main_v9 :=
  Memref.read_access_unit_zero (Elt Ideal) main_v9 (funext fun a => by fin_cases a <;> rfl) (fun a => by fin_cases a <;> decide) (V m c main_v9)
theorem in7 : iblk m c 7 t0 = V m c main_v20 :=
  Memref.read_access_unit_zero (Elt Ideal) main_v20 (funext fun a => by fin_cases a <;> rfl) (fun a => by fin_cases a <;> decide) (V m c main_v20)

/-- The result array is what the run leaves. -/
theorem result : (dats m 0 c).arrAt 8 cfg0.N = leftAt m c t0 :=
  (Memref.read_access_unit_zero (Elt Ideal) main_v21 (funext fun a => by fin_cases a <;> rfl) (fun a => by fin_cases a <;> decide)
    ((dats m 0 c).arrAt 8 cfg0.N)).symm.trans (block m c t0 (by decide))

/-- The weights of a layer, as launched. -/
def given (l : ℕ) : Weights :=
  weights (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) l

theorem blocks_host {l : ℕ} (hl : l < 2) : Tree.Host (given m c l) l (iblk m c 1 t0) (iblk m c 2 t0) (iblk m c 3 t0) (iblk m c 4 t0)
    (iblk m c 5 t0) (iblk m c 6 t0) (iblk m c 7 t0) := by
  rw [in1, in2, in3, in4, in5, in6, in7, Tree.entry6, Tree.entry7, Tree.entry9, Tree.entry11, Tree.entry15, Tree.entry18, Tree.entry20]
  exact Tree.host _ _ _ _ _ _ _ _ _ _ hl

/-- So the result array holds the second layer's output. -/
theorem value (y : S10000x128.Idx) : ((dats m 0 c).arrAt 8 cfg0.N : Arr 10000 128) y
    = layer (given m c 1) (layer (given m c 0) (at2 (m ((c.tc : Thread nD τ).loc main_arg0)))) (y 0) (y 1) := by
  rw [result]
  unfold leftAt
  rw [left_at _ _ _ _ _ _ _ _ _ _ _ _ _ _ _ _ _ _ _ _ _ _ _ _ _ _ _ _ _ _ _ _ _ (blocks_host m c (l := 0) (by omega)) (blocks_host m c (l := 1) (by omega)) y, in0]

end Cert.Go

end
-- ==== Proof.Trip.lean ====
/- One trip of the reference's loop: what it computes, as functions of the arrays a trip is handed, and these at an index, in the
   terms of `Tree.lean`; then what the arrays hold after any number of trips. -/
module

public import proofs.«01_k».proof.Proof.Words
public import proofs.«01_k».proof.Proof.Gen.ReferenceIdeal

@[expose] public section

noncomputable section

namespace Cert.Trip

open Idealize.ShloMosaic
open Cert.ReferenceIdeal Cert.ReferenceIdeal.Gen Cert.Tree
open Finset (range)

/-- The array of both layers, the cell states, and the arguments that hold weights. -/
abbrev AX := FVec Ideal S3x10000x128 .f32
abbrev AC := FVec Ideal S10000x128 .f32

structure Args where
  a1 : FVec Ideal S2x320x128 .f32
  a2 : FVec Ideal S2x320 .f32
  a3 : FVec Ideal S2x320x64 .f32
  a4 : FVec Ideal S2x320 .f32
  a5 : FVec Ideal S2x320x64 .f32
  a6 : FVec Ideal S2x320 .f32
  a7 : FVec Ideal S2x256x128 .f32
  a8 : FVec Ideal S2x256 .f32
  a9 : FVec Ideal S2x256x64 .f32
  a10 : FVec Ideal S2x256 .f32

def Args.at (w : Args) (l : ℕ) : Weights := weights w.a1 w.a2 w.a3 w.a4 w.a5 w.a6 w.a7 w.a8 w.a9 w.a10 l

/-! The pieces of a trip. -/

def upOwn (x : FVec Ideal S1x128 .f32) (W : FVec Ideal S2x320x128 .f32) (l : IVec S0 32) : FVec Ideal S1x320 .f32 :=
  Host.dotGeneral dot_S1x128_S128x320_S1x320_1_0_0_1_n_n none x (transpose S128x320 [1, 0] (shapeCast S320x128 (Host.dynamicSlice S1x320x128 W
    (start3 l (I 0) (I 0) h_S_) sliceFits_S2x320x128_S1x320x128) shapeCasts_S1x320x128_S320x128) transposes_S320x128_S128x320_1_0)

def upChild (x : FVec Ideal S1x64 .f32) (W : FVec Ideal S2x320x64 .f32) (l : IVec S0 32) : FVec Ideal S1x320 .f32 :=
  Host.dotGeneral dot_S1x64_S64x320_S1x320_1_0_0_1_n_n none x (transpose S64x320 [1, 0] (shapeCast S320x64 (Host.dynamicSlice S1x320x64 W
    (start3 l (I 0) (I 0) h_S_) sliceFits_S2x320x64_S1x320x64) shapeCasts_S1x320x64_S320x64) transposes_S320x64_S64x320_1_0)

def upBias (b : FVec Ideal S2x320 .f32) (l : IVec S0 32) : FVec Ideal S1x320 .f32 :=
  Host.dynamicSlice S1x320 b (start2 l (I 0) h_S_) sliceFits_S2x320_S1x320

def dnOwn (x : FVec Ideal S1x128 .f32) (W : FVec Ideal S2x256x128 .f32) (l : IVec S0 32) : FVec Ideal S1x256 .f32 :=
  Host.dotGeneral dot_S1x128_S128x256_S1x256_1_0_0_1_n_n none x (transpose S128x256 [1, 0] (shapeCast S256x128 (Host.dynamicSlice S1x256x128 W
    (start3 l (I 0) (I 0) h_S_) sliceFits_S2x256x128_S1x256x128) shapeCasts_S1x256x128_S256x128) transposes_S256x128_S128x256_1_0)

def dnParent (x : FVec Ideal S1x64 .f32) (W : FVec Ideal S2x256x64 .f32) (l : IVec S0 32) : FVec Ideal S1x256 .f32 :=
  Host.dotGeneral dot_S1x64_S64x256_S1x256_1_0_0_1_n_n none x (transpose S64x256 [1, 0] (shapeCast S256x64 (Host.dynamicSlice S1x256x64 W
    (start3 l (I 0) (I 0) h_S_) sliceFits_S2x256x64_S1x256x64) shapeCasts_S1x256x64_S256x64) transposes_S256x64_S64x256_1_0)

def dnBias (b : FVec Ideal S2x256 .f32) (l : IVec S0 32) : FVec Ideal S1x256 .f32 :=
  Host.dynamicSlice S1x256 b (start2 l (I 0) h_S_) sliceFits_S2x256_S1x256

def row (X : AX) (l i : IVec S0 32) : FVec Ideal S1x128 .f32 :=
  shapeCast S1x128 (Host.dynamicSlice S1x1x128 X (start3 l i (I 0) h_S_) sliceFits_S3x10000x128_S1x1x128) shapeCasts_S1x1x128_S1x128

def half (X : AX) (l i q : IVec S0 32) : FVec Ideal S1x64 .f32 :=
  shapeCast S1x64 (Host.dynamicSlice S1x1x64 X (start3 l i q h_S_) sliceFits_S3x10000x128_S1x1x64) shapeCasts_S1x1x64_S1x64

def cell (C : AC) (i q : IVec S0 32) : FVec Ideal S1x64 .f32 := Host.dynamicSlice S1x64 C (start2 i q h_S_) sliceFits_S10000x128_S1x64

def mask (m : FVec Ideal S0 .f32) (x : FVec Ideal S1x64 .f32) : FVec Ideal S1x64 .f32 := mulf (broadcastInDim S1x64 ![] bcast_S_S1x64 m) x

def mask' (m : FVec Ideal S0 .f32) (x : FVec Ideal S1x320 .f32) : FVec Ideal S1x320 .f32 := mulf (broadcastInDim S1x320 ![] bcast_S_S1x320 m) x

def upGates (w : Args) (X : AX) (l v li ri : IVec S0 32) (ml mr : FVec Ideal S0 .f32) : FVec Ideal S1x320 .f32 :=
  addf (addf (addf (upOwn (row X l v) w.a1 l) (upBias w.a2 l))
      (mask' ml (addf (upChild (mask ml (half X (addi l (I 1)) li (I 0))) w.a3 l) (upBias w.a4 l))))
    (mask' mr (addf (upChild (mask mr (half X (addi l (I 1)) ri (I 0))) w.a5 l) (upBias w.a6 l)))

def upC (g : FVec Ideal S1x320 .f32) (C : AC) (li ri : IVec S0 32) (ml mr : FVec Ideal S0 .f32) : FVec Ideal S1x64 .f32 :=
  addf (addf (mulf (sg bcast_S_S1x64 (extractStridedSlice S1x64 ![0, 0] g slices_S1x320_S1x64_0_0))
      (Host.tanh (extractStridedSlice S1x64 ![0, 256] g slices_S1x320_S1x64_0_256)))
      (mulf (sg bcast_S_S1x64 (extractStridedSlice S1x64 ![0, 128] g slices_S1x320_S1x64_0_128)) (mask ml (cell C li (I 0)))))
    (mulf (sg bcast_S_S1x64 (extractStridedSlice S1x64 ![0, 192] g slices_S1x320_S1x64_0_192)) (mask mr (cell C ri (I 0))))

def upH (g : FVec Ideal S1x320 .f32) (c : FVec Ideal S1x64 .f32) : FVec Ideal S1x64 .f32 :=
  mulf (sg bcast_S_S1x64 (extractStridedSlice S1x64 ![0, 64] g slices_S1x320_S1x64_0_64)) (Host.tanh c)

def dnGates (w : Args) (X : AX) (l j p : IVec S0 32) (mp : FVec Ideal S0 .f32) : FVec Ideal S1x256 .f32 :=
  addf (addf (addf (dnOwn (row X l j) w.a7 l) (dnBias w.a8 l)) (dnParent (mask mp (half X (addi l (I 1)) p (I 64))) w.a9 l)) (dnBias w.a10 l)

def dnC (g : FVec Ideal S1x256 .f32) (C : AC) (p : IVec S0 32) (mp : FVec Ideal S0 .f32) : FVec Ideal S1x64 .f32 :=
  addf (mulf (sg bcast_S_S1x64 (extractStridedSlice S1x64 ![0, 0] g slices_S1x256_S1x64_0_0))
      (Host.tanh (extractStridedSlice S1x64 ![0, 192] g slices_S1x256_S1x64_0_192)))
    (mulf (sg bcast_S_S1x64 (extractStridedSlice S1x64 ![0, 128] g slices_S1x256_S1x64_0_128)) (mask mp (cell C p (I 64))))

def dnH (g : FVec Ideal S1x256 .f32) (c : FVec Ideal S1x64 .f32) : FVec Ideal S1x64 .f32 :=
  mulf (sg bcast_S_S1x64 (extractStridedSlice S1x64 ![0, 64] g slices_S1x256_S1x64_0_64)) (Host.tanh c)

def putX (X : AX) (l v j : IVec S0 32) (hf hb : FVec Ideal S1x64 .f32) : AX :=
  Host.dynamicUpdateSlice (Host.dynamicUpdateSlice X (shapeCast S1x1x64 hf shapeCasts_S1x64_S1x1x64) (start3 (addi l (I 1)) v (I 0) h_S_)
    updateFits_S3x10000x128_S1x1x64) (shapeCast S1x1x64 hb shapeCasts_S1x64_S1x1x64) (start3 (addi l (I 1)) j (I 64) h_S_)
    updateFits_S3x10000x128_S1x1x64

def putC (C : AC) (v j : IVec S0 32) (cf cb : FVec Ideal S1x64 .f32) : AC :=
  Host.dynamicUpdateSlice (Host.dynamicUpdateSlice C cf (start2 v (I 0) h_S_) updateFits_S10000x128_S1x64) cb (start2 j (I 64) h_S_)
    updateFits_S10000x128_S1x64

/-! The pieces at an index. -/

/-- One or zero. -/
def one (p : Prop) [Decidable p] : EReal := if p then 1 else 0

section
variable {l i q o k : ℕ} (hl : l < 2)
include hl

theorem upOwn_at (x : FVec Ideal S1x128 .f32) (W : FVec Ideal S2x320x128 .f32) (ho : o < 320) :
    at2 (upOwn x W (I l)) 0 o = ∑ k ∈ range 128, at2 x 0 k * at3 W l o k :=
  at2_lin _ rfl x W hl (by omega) _ _ _ ho

theorem upChild_at (x : FVec Ideal S1x64 .f32) (W : FVec Ideal S2x320x64 .f32) (ho : o < 320) :
    at2 (upChild x W (I l)) 0 o = ∑ k ∈ range 64, at2 x 0 k * at3 W l o k :=
  at2_lin _ rfl x W hl (by omega) _ _ _ ho

theorem dnOwn_at (x : FVec Ideal S1x128 .f32) (W : FVec Ideal S2x256x128 .f32) (ho : o < 256) :
    at2 (dnOwn x W (I l)) 0 o = ∑ k ∈ range 128, at2 x 0 k * at3 W l o k :=
  at2_lin _ rfl x W hl (by omega) _ _ _ ho

theorem dnParent_at (x : FVec Ideal S1x64 .f32) (W : FVec Ideal S2x256x64 .f32) (ho : o < 256) :
    at2 (dnParent x W (I l)) 0 o = ∑ k ∈ range 64, at2 x 0 k * at3 W l o k :=
  at2_lin _ rfl x W hl (by omega) _ _ _ ho

theorem upBias_at (b : FVec Ideal S2x320 .f32) (ho : o < 320) : at2 (upBias b (I l)) 0 o = at2 b l o :=
  (slice2 b _ (by omega) (by omega) (by omega) (by omega) (by omega) ho).trans (by rw [Nat.add_zero, Nat.zero_add])

theorem dnBias_at (b : FVec Ideal S2x256 .f32) (ho : o < 256) : at2 (dnBias b (I l)) 0 o = at2 b l o :=
  (slice2 b _ (by omega) (by omega) (by omega) (by omega) (by omega) ho).trans (by rw [Nat.add_zero, Nat.zero_add])

theorem row_at (X : AX) (hi : i < 10000) (hq : q < 128) : at2 (row X (I l) (I i)) 0 q = at3 X l i q :=
  (slice3 X _ (by omega) (by omega) (by omega) (by omega) (by omega) (by omega) _ (by omega) hq).trans (by rw [Nat.add_zero, Nat.zero_add])

theorem half_at (X : AX) (hi : i < 10000) (ho : o + 64 ≤ 128) (hq : q < 64) :
    at2 (half X (addi (I l) (I 1)) (I i) (I o)) 0 q = at3 X (l + 1) i (o + q) := by
  rw [I_add]
  exact (slice3 X _ (by omega) (by omega) ho (by omega) (by omega) (by omega) _ (by omega) hq)

end

section
variable {i q o : ℕ}

theorem cell_at (C : AC) (hi : i < 10000) (ho : o + 64 ≤ 128) (hq : q < 64) : at2 (cell C (I i) (I o)) 0 q = at2 C i (o + q) :=
  (slice2 C _ (by omega) ho (by omega) (by omega) (by omega) hq).trans (by rw [Nat.add_zero])

theorem mask_at (p : Prop) [Decidable p] (x : FVec Ideal S1x64 .f32) (hq : q < 64) : at2 (mask (flag p) x) 0 q = one p * at2 x 0 q :=
  (at2_mulf _ _ _ _).trans (congrArg (· * at2 x 0 q) (at2_splat (flag p) (e := one p) (fun _ => rfl) _ (by omega) hq))

theorem mask'_at (p : Prop) [Decidable p] (x : FVec Ideal S1x320 .f32) (hq : q < 320) : at2 (mask' (flag p) x) 0 q = one p * at2 x 0 q :=
  (at2_mulf _ _ _ _).trans (congrArg (· * at2 x 0 q) (at2_splat (flag p) (e := one p) (fun _ => rfl) _ (by omega) hq))

end

/-- The state a trip reads for a child or the parent in row `i`, columns from `o` on. -/
def pick (p : Prop) [Decidable p] (X : AX) (C : AC) (l i o : ℕ) : Cell := ⟨fun q => one p * at2 C i (o + q), fun q => one p * at3 X (l + 1) i (o + q)⟩

section
variable (w : Args) (X : AX) (C : AC) {l v li ri : ℕ} (hl : l < 2) (hv : v < 10000) (hli : li < 10000) (hri : ri < 10000)
  (pl pr : Prop) [Decidable pl] [Decidable pr]
include hl hv hli hri

theorem upGates_at {o : ℕ} (ho : o < 320) : at2 (upGates w X (I l) (I v) (I li) (I ri) (flag pl) (flag pr)) 0 o
    = gateF (w.at l) (at3 X l v) (pick pl X C l li 0) (pick pr X C l ri 0) (one pl) (one pr) o := by
  unfold upGates gateF
  rw [at2_addf, at2_addf, at2_addf, mask'_at pl _ ho, mask'_at pr _ ho, at2_addf, at2_addf, upOwn_at hl _ _ ho, upChild_at hl _ _ ho,
    upChild_at hl _ _ ho, upBias_at hl _ ho, upBias_at hl _ ho, upBias_at hl _ ho]
  refine congrArg₂ (· + ·) (congrArg₂ (· + ·) (congrArg₂ (· + ·) ?_ rfl) (congrArg₂ (· * ·) rfl (congrArg₂ (· + ·) ?_ rfl)))
    (congrArg₂ (· * ·) rfl (congrArg₂ (· + ·) ?_ rfl))
  · exact Finset.sum_congr rfl fun k hk => congrArg₂ (· * ·) (row_at hl X hv (Finset.mem_range.mp hk)) rfl
  · exact Finset.sum_congr rfl fun k hk => congrArg₂ (· * ·) ((mask_at pl _ (Finset.mem_range.mp hk)).trans
      (congrArg (one pl * ·) (half_at hl X hli (by omega) (Finset.mem_range.mp hk)))) rfl
  · exact Finset.sum_congr rfl fun k hk => congrArg₂ (· * ·) ((mask_at pr _ (Finset.mem_range.mp hk)).trans
      (congrArg (one pr * ·) (half_at hl X hri (by omega) (Finset.mem_range.mp hk)))) rfl

theorem upC_at {q : ℕ} (hq : q < 64) :
    at2 (upC (upGates w X (I l) (I v) (I li) (I ri) (flag pl) (flag pr)) C (I li) (I ri) (flag pl) (flag pr)) 0 q
      = (cellF (w.at l) (at3 X l v) (pick pl X C l li 0) (pick pr X C l ri 0) (one pl) (one pr)).c q := by
  unfold upC cellF newC
  have g {o : ℕ} (ho : o < 320) := upGates_at w X C hl hv hli hri pl pr ho
  generalize upGates w X (I l) (I v) (I li) (I ri) (flag pl) (flag pr) = G at g ⊢
  rw [at2_addf, at2_addf, at2_mulf, at2_mulf, at2_mulf, at2_sg _ _ (by omega) hq, at2_sg _ _ (by omega) hq, at2_sg _ _ (by omega) hq,
    at2_tanh _ (by omega) hq, at2_cut G _ (by omega) hq, at2_cut G _ (by omega) hq, at2_cut G _ (by omega) hq, at2_cut G _ (by omega) hq,
    g (by omega), g (by omega), g (by omega), g (by omega), mask_at pl _ hq, mask_at pr _ hq, cell_at C hli (by omega) hq,
    cell_at C hri (by omega) hq, Nat.zero_add]
  simp only [pick, Nat.zero_add]

theorem upH_at {q : ℕ} (hq : q < 64) :
    at2 (upH (upGates w X (I l) (I v) (I li) (I ri) (flag pl) (flag pr))
        (upC (upGates w X (I l) (I v) (I li) (I ri) (flag pl) (flag pr)) C (I li) (I ri) (flag pl) (flag pr))) 0 q
      = (cellF (w.at l) (at3 X l v) (pick pl X C l li 0) (pick pr X C l ri 0) (one pl) (one pr)).h q := by
  have g {o : ℕ} (ho : o < 320) := upGates_at w X C hl hv hli hri pl pr ho
  have c := upC_at w X C hl hv hli hri pl pr hq
  generalize upC (upGates w X (I l) (I v) (I li) (I ri) (flag pl) (flag pr)) C (I li) (I ri) (flag pl) (flag pr) = D at c ⊢
  generalize upGates w X (I l) (I v) (I li) (I ri) (flag pl) (flag pr) = G at g ⊢
  unfold upH
  rw [at2_mulf, at2_sg _ _ (by omega) hq, at2_tanh _ (by omega) hq, at2_cut G _ (by omega) hq, g (by omega), c]
  rfl

end

section
variable (w : Args) (X : AX) (C : AC) {l j p : ℕ} (hl : l < 2) (hj : j < 10000) (hp : p < 10000) (pp : Prop) [Decidable pp]
include hl hj hp

theorem dnGates_at {o : ℕ} (ho : o < 256) : at2 (dnGates w X (I l) (I j) (I p) (flag pp)) 0 o
    = gateB (w.at l) (at3 X l j) (pick pp X C l p 64) o := by
  unfold dnGates gateB
  rw [at2_addf, at2_addf, at2_addf, dnOwn_at hl _ _ ho, dnParent_at hl _ _ ho, dnBias_at hl _ ho, dnBias_at hl _ ho]
  refine congrArg₂ (· + ·) (congrArg₂ (· + ·) (congrArg₂ (· + ·) ?_ rfl) ?_) rfl
  · exact Finset.sum_congr rfl fun k hk => congrArg₂ (· * ·) (row_at hl X hj (Finset.mem_range.mp hk)) rfl
  · exact Finset.sum_congr rfl fun k hk => congrArg₂ (· * ·) ((mask_at pp _ (Finset.mem_range.mp hk)).trans
      (congrArg (one pp * ·) (half_at hl X hp (by omega) (Finset.mem_range.mp hk)))) rfl

theorem dnC_at {q : ℕ} (hq : q < 64) : at2 (dnC (dnGates w X (I l) (I j) (I p) (flag pp)) C (I p) (flag pp)) 0 q
    = (cellB (w.at l) (at3 X l j) (pick pp X C l p 64)).c q := by
  unfold dnC cellB newCB
  have g {o : ℕ} (ho : o < 256) := dnGates_at w X C hl hj hp pp ho
  generalize dnGates w X (I l) (I j) (I p) (flag pp) = G at g ⊢
  rw [at2_addf, at2_mulf, at2_mulf, at2_sg _ _ (by omega) hq, at2_sg _ _ (by omega) hq,
    at2_tanh _ (by omega) hq, at2_cut G _ (by omega) hq, at2_cut G _ (by omega) hq, at2_cut G _ (by omega) hq,
    g (by omega), g (by omega), g (by omega), mask_at pp _ hq, cell_at C hp (by omega) hq, Nat.zero_add]
  rfl

theorem dnH_at {q : ℕ} (hq : q < 64) :
    at2 (dnH (dnGates w X (I l) (I j) (I p) (flag pp)) (dnC (dnGates w X (I l) (I j) (I p) (flag pp)) C (I p) (flag pp))) 0 q
      = (cellB (w.at l) (at3 X l j) (pick pp X C l p 64)).h q := by
  have g {o : ℕ} (ho : o < 256) := dnGates_at w X C hl hj hp pp ho
  have c := dnC_at w X C hl hj hp pp hq
  generalize dnC (dnGates w X (I l) (I j) (I p) (flag pp)) C (I p) (flag pp) = D at c ⊢
  generalize dnGates w X (I l) (I j) (I p) (flag pp) = G at g ⊢
  unfold dnH
  rw [at2_mulf, at2_sg _ _ (by omega) hq, at2_tanh _ (by omega) hq, at2_cut G _ (by omega) hq, g (by omega), c]
  rfl

end

section
variable {l v j : ℕ} (hv : v < 10000) (hj : j < 10000)
include hv hj

theorem putX_at (hl : l < 2) (X : AX) (hf hb : FVec Ideal S1x64 .f32) {k i q : ℕ} (hk : k < 3) (hi : i < 10000) (hq : q < 128) :
    at3 (putX X (I l) (I v) (I j) hf hb) k i q
      = if k = l + 1 ∧ i = j ∧ 64 ≤ q ∧ q < 64 + 64 then at2 hb 0 (q - 64)
        else if k = l + 1 ∧ i = v ∧ 0 ≤ q ∧ q < 0 + 64 then at2 hf 0 (q - 0) else at3 X k i q := by
  unfold putX
  rw [I_add]
  refine (update3 _ hb _ _ (by omega) (by omega) (by omega) (by omega) (by omega) (by omega) hk hi hq).trans ?_
  refine congrArg (ite _ _) ?_
  exact update3 X hf _ _ (by omega) (by omega) (by omega) (by omega) (by omega) (by omega) hk hi hq

theorem putC_at (C : AC) (cf cb : FVec Ideal S1x64 .f32) {i q : ℕ} (hi : i < 10000) (hq : q < 128) :
    at2 (putC C (I v) (I j) cf cb) i q
      = if i = j ∧ 64 ≤ q ∧ q < 64 + 64 then at2 cb 0 (q - 64)
        else if i = v ∧ 0 ≤ q ∧ q < 0 + 64 then at2 cf 0 (q - 0) else at2 C i q := by
  unfold putC
  refine (update2 _ cb _ (by omega) (by omega) (by omega) (by omega) hi hq).trans ?_
  refine congrArg (ite _ _) ?_
  exact update2 C cf _ (by omega) (by omega) (by omega) (by omega) hi hq

end

end Cert.Trip

end
-- ==== Proof.Loop.lean ====
/- What the reference's arrays hold after each trip of its loop: the layers finished so far, and of the layer being made the
   nodes that both directions have reached. -/
module

public import proofs.«01_k».proof.Proof.Trip

@[expose] public section

noncomputable section

namespace Cert.Trip

open Idealize.ShloMosaic
open Cert.ReferenceIdeal Cert.ReferenceIdeal.Gen Cert.Tree
open Finset (range)

/-- The same numbers in the first 64 places. -/
def Same (s t : Cell) : Prop := ∀ q < 64, s.c q = t.c q ∧ s.h q = t.h q

theorem newC_congr {g g' lc lc' rc rc' : ℕ → EReal} (hg : ∀ o < 320, g o = g' o) {q : ℕ} (hq : q < 64) (hl : lc q = lc' q) (hr : rc q = rc' q) :
    newC g lc rc q = newC g' lc' rc' q := by
  unfold newC
  rw [hg q (by omega), hg (256 + q) (by omega), hg (128 + q) (by omega), hg (192 + q) (by omega), hl, hr]

theorem newCB_congr {g g' pc pc' : ℕ → EReal} (hg : ∀ o < 256, g o = g' o) {q : ℕ} (hq : q < 64) (hp : pc q = pc' q) :
    newCB g pc q = newCB g' pc' q := by
  unfold newCB
  rw [hg q (by omega), hg (192 + q) (by omega), hg (128 + q) (by omega), hp]

theorem newH_congr {g g' c c' : ℕ → EReal} {q : ℕ} (hg : g (64 + q) = g' (64 + q)) (hc : c q = c' q) : newH g c q = newH g' c' q := by
  unfold newH
  rw [hg, hc]

theorem sum_same {n : ℕ} {f f' : ℕ → EReal} (w : ℕ → EReal) (h : ∀ k < n, f k = f' k) : ∑ k ∈ range n, f k * w k = ∑ k ∈ range n, f' k * w k :=
  Finset.sum_congr rfl fun k hk => by rw [h k (Finset.mem_range.mp hk)]

theorem cellF_congr (P : Weights) {x x' : ℕ → EReal} {L L' R R' : Cell} (ml mr : EReal) (hx : ∀ k < 128, x k = x' k) (hL : Same L L') (hR : Same R R') :
    Same (cellF P x L R ml mr) (cellF P x' L' R' ml mr) := by
  have g : ∀ o, gateF P x L R ml mr o = gateF P x' L' R' ml mr o := fun o => by
    unfold gateF
    rw [sum_same (P.Wx o) hx, sum_same (P.Wl o) fun k hk => (hL k hk).2, sum_same (P.Wr o) fun k hk => (hR k hk).2]
  intro q hq
  have c := newC_congr (fun o _ => g o) hq (hL q hq).1 (hR q hq).1
  exact ⟨c, newH_congr (g _) c⟩

theorem cellB_congr (P : Weights) {x x' : ℕ → EReal} {Q Q' : Cell} (hx : ∀ k < 128, x k = x' k) (hQ : Same Q Q') :
    Same (cellB P x Q) (cellB P x' Q') := by
  have g : ∀ o, gateB P x Q o = gateB P x' Q' o := fun o => by
    unfold gateB
    rw [sum_same (P.Vx o) hx, sum_same (P.Vh o) fun k hk => (hQ k hk).2]
  intro q hq
  have c := newCB_congr (fun o _ => g o) hq (hQ q hq).1
  exact ⟨c, newH_congr (g _) c⟩

/-- A node's state, or that of a node that is not there. -/
def orNone (p : Prop) [Decidable p] (s : Cell) : Cell := if p then s else Cell.none

theorem treeF_eq (P : Weights) (X : ℕ → ℕ → EReal) (v : ℕ) :
    treeF P X v = cellF P (X v) (orNone (2 * v + 1 < 10000) (treeF P X (2 * v + 1))) (orNone (2 * v + 2 < 10000) (treeF P X (2 * v + 2)))
      (one (2 * v + 1 < 10000)) (one (2 * v + 2 < 10000)) := by
  rw [treeF]
  unfold orNone one
  split_ifs <;> first | rfl | (exfalso; omega)

theorem treeB_eq (P : Weights) (X : ℕ → ℕ → EReal) (v : ℕ) :
    treeB P X v = cellB P (X v) (orNone (0 < v) (treeB P X ((v - 1) / 2))) := by
  rw [treeB]
  unfold orNone
  split_ifs with h h' h'
  · omega
  · rw [h]
  · rfl
  · omega

theorem pick_same (p : Prop) [Decidable p] (X : AX) (C : AC) {l i o : ℕ} {s : Cell}
    (h : p → ∀ q < 64, at2 C i (o + q) = s.c q ∧ at3 X (l + 1) i (o + q) = s.h q) : Same (pick p X C l i o) (orNone p s) := by
  intro q hq
  unfold pick orNone one
  by_cases hp : p
  · simp only [if_pos hp, one_mul]
    exact h hp q hq
  · simp only [if_neg hp, zero_mul]
    exact ⟨rfl, rfl⟩

/-- The layers of the model: the features, then each layer's output on the last one's. -/
def deep (w : Args) (x : ℕ → ℕ → EReal) : ℕ → ℕ → ℕ → EReal
  | 0 => x
  | l + 1 => layer (w.at l) (deep w x l)

/-- What the arrays hold when `j` nodes of layer `l` have been visited in each direction. -/
structure Inv (w : Args) (x : ℕ → ℕ → EReal) (l j : ℕ) (X : AX) (C : AC) : Prop where
  done : ∀ k ≤ l, ∀ i < 10000, ∀ q < 128, at3 X k i q = deep w x k i q
  up : ∀ i < 10000, 10000 ≤ i + j → ∀ q < 64, at2 C i q = (treeF (w.at l) (deep w x l) i).c q ∧ at3 X (l + 1) i q = (treeF (w.at l) (deep w x l) i).h q
  dn : ∀ i < j, ∀ q < 64, at2 C i (64 + q) = (treeB (w.at l) (deep w x l) i).c q ∧ at3 X (l + 1) i (64 + q) = (treeB (w.at l) (deep w x l) i).h q

/-- What a trip of node number `j` of layer `l` makes of the arrays, the row numbers worked out. -/
def gF (w : Args) (l j : ℕ) (X : AX) : FVec Ideal S1x320 .f32 :=
  upGates w X (I l) (I (9999 - j)) (I (min (2 * (9999 - j) + 1) 9999)) (I (min (2 * (9999 - j) + 2) 9999)) (flag (2 * (9999 - j) + 1 < 10000))
    (flag (2 * (9999 - j) + 2 < 10000))

def cF (w : Args) (l j : ℕ) (X : AX) (C : AC) : FVec Ideal S1x64 .f32 :=
  upC (gF w l j X) C (I (min (2 * (9999 - j) + 1) 9999)) (I (min (2 * (9999 - j) + 2) 9999)) (flag (2 * (9999 - j) + 1 < 10000))
    (flag (2 * (9999 - j) + 2 < 10000))

def gB (w : Args) (l j : ℕ) (X : AX) : FVec Ideal S1x256 .f32 := dnGates w X (I l) (I j) (I ((j - 1) / 2)) (flag (0 < j))

def cB (w : Args) (l j : ℕ) (X : AX) (C : AC) : FVec Ideal S1x64 .f32 := dnC (gB w l j X) C (I ((j - 1) / 2)) (flag (0 < j))

def nextX (w : Args) (l j : ℕ) (X : AX) (C : AC) : AX :=
  putX X (I l) (I (9999 - j)) (I j) (upH (gF w l j X) (cF w l j X C)) (dnH (gB w l j X) (cB w l j X C))

def nextC (w : Args) (l j : ℕ) (X : AX) (C : AC) : AC := putC C (I (9999 - j)) (I j) (cF w l j X C) (cB w l j X C)

section
variable {w : Args} {x : ℕ → ℕ → EReal} {l j : ℕ} {X : AX} {C : AC} (hl : l < 2) (hj : j < 10000) (h : Inv w x l j X C)
include hl hj h

theorem Inv.newF {q : ℕ} (hq : q < 64) : at2 (cF w l j X C) 0 q = (treeF (w.at l) (deep w x l) (9999 - j)).c q
    ∧ at2 (upH (gF w l j X) (cF w l j X C)) 0 q = (treeF (w.at l) (deep w x l) (9999 - j)).h q := by
  have hv : 9999 - j < 10000 := by omega
  have s := cellF_congr (w.at l) (one (2 * (9999 - j) + 1 < 10000)) (one (2 * (9999 - j) + 2 < 10000)) (fun k hk => h.done l le_rfl _ hv k hk)
    (pick_same (2 * (9999 - j) + 1 < 10000) X C (l := l) (i := min (2 * (9999 - j) + 1) 9999) (o := 0)
      (s := treeF (w.at l) (deep w x l) (2 * (9999 - j) + 1)) fun hp q hq => by
        rw [min_eq_left (by omega), Nat.zero_add]; exact h.up _ hp (by omega) q hq)
    (pick_same (2 * (9999 - j) + 2 < 10000) X C (l := l) (i := min (2 * (9999 - j) + 2) 9999) (o := 0)
      (s := treeF (w.at l) (deep w x l) (2 * (9999 - j) + 2)) fun hp q hq => by
        rw [min_eq_left (by omega), Nat.zero_add]; exact h.up _ hp (by omega) q hq)
  rw [← treeF_eq] at s
  exact ⟨(upC_at w X C hl hv (by omega) (by omega) _ _ hq).trans (s q hq).1, (upH_at w X C hl hv (by omega) (by omega) _ _ hq).trans (s q hq).2⟩

theorem Inv.newB {q : ℕ} (hq : q < 64) : at2 (cB w l j X C) 0 q = (treeB (w.at l) (deep w x l) j).c q
    ∧ at2 (dnH (gB w l j X) (cB w l j X C)) 0 q = (treeB (w.at l) (deep w x l) j).h q := by
  have s := cellB_congr (w.at l) (fun k hk => h.done l le_rfl j hj k hk)
    (pick_same (0 < j) X C (l := l) (i := (j - 1) / 2) (o := 64)
      (s := treeB (w.at l) (deep w x l) ((j - 1) / 2)) fun hp q hq => h.dn _ (by omega) q hq)
  rw [← treeB_eq] at s
  exact ⟨(dnC_at w X C hl hj (by omega) _ hq).trans (s q hq).1, (dnH_at w X C hl hj (by omega) _ hq).trans (s q hq).2⟩

/-- One trip. -/
theorem Inv.step : Inv w x l (j + 1) (nextX w l j X C) (nextC w l j X C) where
  done k hk i hi q hq := by
    refine (putX_at (by omega) hj hl X _ _ (by omega) hi hq).trans ?_
    rw [if_neg (by omega), if_neg (by omega)]
    exact h.done k hk i hi q hq
  up i hi hij q hq := by
    have eX := putX_at (l := l) (v := 9999 - j) (j := j) (by omega) hj hl X (upH (gF w l j X) (cF w l j X C)) (dnH (gB w l j X) (cB w l j X C))
      (k := l + 1) (i := i) (q := q) (by omega) hi (by omega)
    have eC := putC_at (v := 9999 - j) (j := j) (by omega) hj C (cF w l j X C) (cB w l j X C) (i := i) (q := q) hi (by omega)
    rw [if_neg (by omega)] at eX eC
    by_cases hv : i = 9999 - j
    · rw [if_pos (by omega), Nat.sub_zero] at eX eC
      rw [hv] at eX eC ⊢
      exact ⟨eC.trans (h.newF hl hj hq).1, eX.trans (h.newF hl hj hq).2⟩
    · rw [if_neg (by omega)] at eX eC
      have := h.up i hi (by omega) q hq
      exact ⟨eC.trans this.1, eX.trans this.2⟩
  dn i hi q hq := by
    have eX := putX_at (l := l) (v := 9999 - j) (j := j) (by omega) hj hl X (upH (gF w l j X) (cF w l j X C)) (dnH (gB w l j X) (cB w l j X C))
      (k := l + 1) (i := i) (q := 64 + q) (by omega) (by omega) (by omega)
    have eC := putC_at (v := 9999 - j) (j := j) (by omega) hj C (cF w l j X C) (cB w l j X C) (i := i) (q := 64 + q) (by omega) (by omega)
    by_cases hv : i = j
    · rw [if_pos (by omega), Nat.add_sub_cancel_left] at eX eC
      rw [hv] at eX eC ⊢
      exact ⟨eC.trans (h.newB hl hj hq).1, eX.trans (h.newB hl hj hq).2⟩
    · rw [if_neg (by omega), if_neg (by omega)] at eX eC
      have := h.dn i (by omega) q hq
      exact ⟨eC.trans this.1, eX.trans this.2⟩

end

/-- A layer whose nodes have all been visited is finished. -/
theorem Inv.next {w : Args} {x : ℕ → ℕ → EReal} {l : ℕ} {X : AX} {C : AC} (h : Inv w x l 10000 X C) : Inv w x (l + 1) 0 X C where
  done k hk i hi q hq := by
    rcases Nat.lt_or_ge k (l + 1) with hk' | hk'
    · exact h.done k (by omega) i hi q hq
    · rw [show k = l + 1 by omega]
      show _ = layer (w.at l) (deep w x l) i q
      unfold layer
      by_cases hq' : q < 64
      · rw [if_pos hq']
        exact (h.up i hi (by omega) q hq').2
      · rw [if_neg hq']
        have := (h.dn i hi (q - 64) (by omega)).2
        rwa [show 64 + (q - 64) = q by omega] at this
  up i hi hij := absurd hij (by omega)
  dn i hi := absurd hi (by omega)

end Cert.Trip

end
-- ==== Proof.Ref.lean ====
/- The reference's run: its loop's arrays follow `Loop.lean`, so its result is the second layer's output. -/
module

public import proofs.«01_k».proof.Proof.Loop
public import proofs.«01_k».proof.Proof.Gen.ReferenceIdeal.Run

@[expose] public section

noncomputable section

namespace Cert.Trip

open Idealize.ShloMosaic Idealize.ShloMosaic.TcCoe
open Cert.ReferenceIdeal Cert.ReferenceIdeal.Gen Cert.ReferenceIdeal.Value Cert.Tree

/-- What the reference's arrays hold. -/
abbrev Vals := Valuation τ ReferenceIdeal.sig (Elt Ideal)

def ctr (V : Vals) : IVec S0 32 := V (Proc.devRef .tc main_v4_11)
def arrX (V : Vals) : AX := V (Proc.devRef .tc main_v4_12)
def arrC (V : Vals) : AC := V (Proc.devRef .tc main_v4_13)
def args (V : Vals) : Args where
  a1 := V (Proc.devRef .tc main_v4_0)
  a2 := V (Proc.devRef .tc main_v4_1)
  a3 := V (Proc.devRef .tc main_v4_2)
  a4 := V (Proc.devRef .tc main_v4_3)
  a5 := V (Proc.devRef .tc main_v4_4)
  a6 := V (Proc.devRef .tc main_v4_5)
  a7 := V (Proc.devRef .tc main_v4_6)
  a8 := V (Proc.devRef .tc main_v4_7)
  a9 := V (Proc.devRef .tc main_v4_8)
  a10 := V (Proc.devRef .tc main_v4_9)

section
variable (V : Vals)

theorem gates_up : res_main_while0b_v62 V = upGates (args V) (arrX V) (res_main_while0b_v8 V) (res_main_while0b_v10 V) (res_main_while0b_v21 V)
    (res_main_while0b_v22 V) (res_main_while0b_v18 V) (res_main_while0b_v20 V) := rfl

theorem cells_up : res_main_while0b_v91 V = upC (res_main_while0b_v62 V) (arrC V) (res_main_while0b_v21 V)
    (res_main_while0b_v22 V) (res_main_while0b_v18 V) (res_main_while0b_v20 V) := rfl

theorem gates_dn : res_main_while0b_v127 V = dnGates (args V) (arrX V) (res_main_while0b_v8 V) (res_main_while0b_v9 V) (res_main_while0b_v106 V)
    (res_main_while0b_v103 V) := rfl

theorem cells_dn : res_main_while0b_v147 V = dnC (res_main_while0b_v127 V) (arrC V) (res_main_while0b_v106 V) (res_main_while0b_v103 V) := rfl

theorem arrX_step : arrX (STEP V) = putX (arrX V) (res_main_while0b_v8 V) (res_main_while0b_v10 V) (res_main_while0b_v9 V)
    (upH (res_main_while0b_v62 V) (res_main_while0b_v91 V)) (dnH (res_main_while0b_v127 V) (res_main_while0b_v147 V)) := STEP_main_v4_12 V

theorem arrC_step : arrC (STEP V) = putC (arrC V) (res_main_while0b_v10 V) (res_main_while0b_v9 V)
    (res_main_while0b_v91 V) (res_main_while0b_v147 V) := STEP_main_v4_13 V

theorem ctr_step : ctr (STEP V) = addi (ctr V) (I 1) := STEP_main_v4_11 V

theorem args_step : args (STEP V) = args V := by
  unfold args
  rw [STEP_main_v4_0, STEP_main_v4_1, STEP_main_v4_2, STEP_main_v4_3, STEP_main_v4_4, STEP_main_v4_5, STEP_main_v4_6, STEP_main_v4_7,
    STEP_main_v4_8, STEP_main_v4_9]

section
variable {V} {l j : ℕ} (hl : l < 2) (hj : j < 10000) (hc : ctr V = I (l * 10000 + j))
include hl hj hc

theorem at_l : (res_main_while0b_v8 V : IVec S0 32) = I l :=
  (congrArg (fun k => Host.divsi k (I 10000)) hc).trans ((I_div (by omega) (by omega) (by omega)).trans (congrArg I (by omega)))

theorem at_j : (res_main_while0b_v9 V : IVec S0 32) = I j :=
  (congrArg (fun k => Host.remsi k (I 10000)) hc).trans ((I_rem (by omega) (by omega) (by omega)).trans (congrArg I (by omega)))

theorem at_v : (res_main_while0b_v10 V : IVec S0 32) = I (9999 - j) :=
  (congrArg (subi (I 9999)) (at_j hl hj hc)).trans (I_sub (by omega) (by omega))

theorem at_left : (res_main_while0b_v14 V : IVec S0 32) = I (2 * (9999 - j) + 1) :=
  (congrArg (fun k => addi (muli (I 2) k) (I 1)) (at_v hl hj hc)).trans
    ((congrArg (fun k => addi k (I 1)) (I_mul _ _)).trans (I_add _ _))

theorem at_right : (res_main_while0b_v16 V : IVec S0 32) = I (2 * (9999 - j) + 2) :=
  (congrArg (fun k => addi (muli (I 2) k) (I 2)) (at_v hl hj hc)).trans
    ((congrArg (fun k => addi k (I 2)) (I_mul _ _)).trans (I_add _ _))

theorem has_left : (res_main_while0b_v18 V : FVec Ideal S0 .f32) = flag (2 * (9999 - j) + 1 < 10000) :=
  (congrArg (fun k => uitofp .f32 (cmpi .slt k (I 10000))) (at_left hl hj hc)).trans (I_flag (by omega) (by omega))

theorem has_right : (res_main_while0b_v20 V : FVec Ideal S0 .f32) = flag (2 * (9999 - j) + 2 < 10000) :=
  (congrArg (fun k => uitofp .f32 (cmpi .slt k (I 10000))) (at_right hl hj hc)).trans (I_flag (by omega) (by omega))

theorem row_left : (res_main_while0b_v21 V : IVec S0 32) = I (min (2 * (9999 - j) + 1) 9999) :=
  (congrArg (fun k => minsi k (I 9999)) (at_left hl hj hc)).trans (I_min (by omega) (by omega))

theorem row_right : (res_main_while0b_v22 V : IVec S0 32) = I (min (2 * (9999 - j) + 2) 9999) :=
  (congrArg (fun k => minsi k (I 9999)) (at_right hl hj hc)).trans (I_min (by omega) (by omega))

theorem has_parent : (res_main_while0b_v103 V : FVec Ideal S0 .f32) = flag (0 < j) :=
  (congrArg (fun k => uitofp .f32 (cmpi .sgt k (I 0))) (at_j hl hj hc)).trans (I_flag' (by omega) (by omega))

theorem row_parent : (res_main_while0b_v106 V : IVec S0 32) = I ((j - 1) / 2) :=
  (congrArg (fun k => Host.divsi (maxsi (subi k (I 1)) (I 0)) (I 2)) (at_j hl hj hc)).trans
    ((congrArg (fun k => Host.divsi k (I 2)) (I_pred (by omega))).trans (I_div (by omega) (by omega) (by omega)))

theorem arrX_next : arrX (STEP V) = nextX (args V) l j (arrX V) (arrC V) ∧ arrC (STEP V) = nextC (args V) l j (arrX V) (arrC V) := by
  rw [arrX_step, arrC_step, cells_up, cells_dn, gates_up, gates_dn, at_l hl hj hc, at_j hl hj hc, at_v hl hj hc, has_left hl hj hc,
    has_right hl hj hc, row_left hl hj hc, row_right hl hj hc, has_parent hl hj hc, row_parent hl hj hc]
  exact ⟨rfl, rfl⟩

end
end

/-- The state after `j` trips of layer `l`. -/
structure State (w : Args) (x : ℕ → ℕ → EReal) (l j : ℕ) (V : Vals) : Prop where
  ctr : ctr V = I (l * 10000 + j)
  args : args V = w
  inv : Inv w x l j (arrX V) (arrC V)

theorem State.step {w : Args} {x : ℕ → ℕ → EReal} {l j : ℕ} {V : Vals} (hl : l < 2) (hj : j < 10000) (h : State w x l j V) :
    State w x l (j + 1) (STEP V) where
  ctr := (ctr_step V).trans ((congrArg (fun k => addi k (I 1)) h.ctr).trans ((I_add _ _).trans (congrArg I (Nat.add_assoc _ _ _))))
  args := (args_step V).trans h.args
  inv := by
    rw [(arrX_next hl hj h.ctr).1, (arrX_next hl hj h.ctr).2, h.args]
    exact h.inv.step hl hj

theorem State.steps {w : Args} {x : ℕ → ℕ → EReal} {l : ℕ} {V : Vals} (hl : l < 2) (h : State w x l 0 V) :
    ∀ j ≤ 10000, State w x l j (STEP^[j] V)
  | 0, _ => h
  | j + 1, hj => by
    rw [Function.iterate_succ_apply']
    exact (State.steps hl h j (by omega)).step hl (by omega)

theorem State.next {w : Args} {x : ℕ → ℕ → EReal} {l : ℕ} {V : Vals} (h : State w x l 10000 V) : State w x (l + 1) 0 V where
  ctr := h.ctr.trans (congrArg I (by omega))
  args := h.args
  inv := h.inv.next

theorem State.last {w : Args} {x : ℕ → ℕ → EReal} {V : Vals} (h : State w x 0 0 V) : State w x 2 0 (STEP^[20000] V) := by
  have s := ((h.steps (by omega) 10000 le_rfl).next.steps (by omega) 10000 le_rfl).next
  rwa [← Function.iterate_add_apply] at s

/-- The result read off the last state. -/
theorem State.result {w : Args} {x : ℕ → ℕ → EReal} {V : Vals} (h : State w x 2 0 V) {i q : ℕ} (hi : i < 10000) (hq : q < 128) :
    at2 (out_main_v6 V : Arr 10000 128) i q = deep w x 2 i q := by
  refine Eq.trans ?_ (h.inv.done 2 le_rfl i hi q hq)
  refine (at2_at _ ⟨i, hi⟩ ⟨q, hq⟩).trans ((ValueIdx.shapeCast_1ab_ab_apply _ _ ⟨i, hi⟩ ⟨q, hq⟩).trans ?_)
  refine Eq.trans ?_ (at3_at (arrX V) 2 ⟨i, hi⟩ ⟨q, hq⟩).symm
  refine congrArg (arrX V) ?_
  refine (ValueIdx.eq_ix3 _).trans ?_
  exact congrArg₂ (ix3 _) (Fin.ext (Nat.zero_add _)) (Fin.ext (Nat.zero_add _))

end Cert.Trip

end
-- ==== Proof.Begin.lean ====
/- The arrays the reference's loop starts from, and so what the reference's result holds. -/
module

public import proofs.«01_k».proof.Proof.Ref

@[expose] public section

set_option maxRecDepth 65536

noncomputable section

namespace Cert.Trip

open Idealize.ShloMosaic Idealize.ShloMosaic.TcCoe Idealize.ShloMosaic.StableHlo
open Cert.ReferenceIdeal Cert.ReferenceIdeal.Gen Cert.ReferenceIdeal.Value Cert.Tree

variable (m : (ℓ : Loc nD τ ReferenceIdeal.sig) → Buf (Elt Ideal) ℓ) (c : Dev nD)

/-- The weights as launched. -/
def given : Args where
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)

/-- The features as launched. -/
def feats : Arr 10000 128 := m ((c.tc : Thread nD τ).loc main_arg0)

/-- The features on top of two layers of zeros. -/
def stack (x : FVec Ideal S10000x128 .f32) : AX :=
  concatenate S3x10000x128 0 [⟨S1x10000x128, broadcastInDim S1x10000x128 ![1, 2] bcast_S10000x128_S1x10000x128_1_2 x⟩,
    ⟨S2x10000x128, broadcastInDim S2x10000x128 ![] bcast_S_S2x10000x128 (constant (F := Ideal) S_ .f32 0x00000000#32)⟩] concatenates_S1x10000x128_S2x10000x128_S3x10000x128_d0

theorem ctr_begin : ctr (entryContents preI m c) = I 0 := rfl

theorem args_begin : args (entryContents preI m c) = given m c := rfl

theorem arrX_begin : arrX (entryContents preI m c) = stack (feats m c) := rfl

theorem stack_at (x : FVec Ideal S10000x128 .f32) {i q : ℕ} (hi : i < 10000) (hq : q < 128) : at3 (stack x) 0 i q = at2 x i q := by
  refine (at3_at (stack x) 0 ⟨i, hi⟩ ⟨q, hq⟩).trans (Eq.trans ?_ (at2_at x ⟨i, hi⟩ ⟨q, hq⟩).symm)
  unfold stack
  pointwise

theorem State.begin : State (given m c) (at2 (feats m c)) 0 0 (entryContents preI m c) where
  ctr := ctr_begin m c
  args := args_begin m c
  inv := {
    done := fun k hk i hi q hq => by
      obtain rfl : k = 0 := by omega
      rw [arrX_begin]
      exact stack_at _ hi hq
    up := fun i hi h => absurd h (by omega)
    dn := fun i hi => absurd hi (by omega) }

/-- The reference's result is the second layer's output. -/
theorem value {i q : ℕ} (hi : i < 10000) (hq : q < 128) :
    at2 (out_main_v6 (STEP^[20000] (entryContents preI m c)) : Arr 10000 128) i q = deep (given m c) (at2 (feats m c)) 2 i q :=
  (State.begin m c).last.result hi hq

end Cert.Trip

end
-- ==== Proof.lean ====
/- The claims: the frames, the idealization, and that kernel and reference agree over the extended reals. -/
module

public import proofs.«01_k».proof.Defs
public import proofs.«01_k».proof.Proof.Gen.Kernel
public import proofs.«01_k».proof.Proof.Out
public import proofs.«01_k».proof.Proof.Begin

@[expose] public section

set_option maxRecDepth 65536

noncomputable section

namespace Cert.Proof

open Idealize.ShloMosaic Idealize.ShloMosaic.TcCoe Idealize.SL.Sem

theorem frame_ideal : Cert.quiescent_KernelIdeal := fun m ρ _ =>
  (θ_run Cert.KernelIdeal.defs _ _).mono (fun _ h => h.1) (Go.run_main (F := Ideal) m ρ)

/-- The two programs' bodies have the same text. -/
theorem bodies : Cert.Kernel.defs₀ (F := Bits) = Cert.KernelIdeal.defs₀ (F := Bits) :=
  congrArg Defs.onTc (funext fun ℓ => match ℓ with
    | 0 => funext fun _ => rfl
    | ⟨_ + 1, h⟩ => absurd h (Nat.not_lt.2 (Nat.le_add_left _ _)))

theorem tables : Cert.Kernel.defs (F := Bits) = Cert.KernelIdeal.defs (F := Bits) :=
  congrArg (Pipeline.defs (Cert.KernelIdeal.pcfgs (F := Bits))) bodies

theorem mains : Cert.Kernel.main (F := Bits) = Cert.KernelIdeal.main (F := Bits) := rfl

theorem frame_kernel : Cert.quiescent_Kernel := fun m ρ _ => by
  rw [tables, mains]
  exact (θ_run Cert.KernelIdeal.defs _ _).mono (fun _ h => h.1) (Go.run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The kernel's weights, as the reference's loop carries them. -/
def weightsOf : Trip.Args where
  a1 := m ((c.tc : Thread KernelIdeal.nD KernelIdeal.τ).loc KernelIdeal.main_arg1)
  a2 := m ((c.tc : Thread KernelIdeal.nD KernelIdeal.τ).loc KernelIdeal.main_arg2)
  a3 := m ((c.tc : Thread KernelIdeal.nD KernelIdeal.τ).loc KernelIdeal.main_arg3)
  a4 := m ((c.tc : Thread KernelIdeal.nD KernelIdeal.τ).loc KernelIdeal.main_arg4)
  a5 := m ((c.tc : Thread KernelIdeal.nD KernelIdeal.τ).loc KernelIdeal.main_arg5)
  a6 := m ((c.tc : Thread KernelIdeal.nD KernelIdeal.τ).loc KernelIdeal.main_arg6)
  a7 := m ((c.tc : Thread KernelIdeal.nD KernelIdeal.τ).loc KernelIdeal.main_arg7)
  a8 := m ((c.tc : Thread KernelIdeal.nD KernelIdeal.τ).loc KernelIdeal.main_arg8)
  a9 := m ((c.tc : Thread KernelIdeal.nD KernelIdeal.τ).loc KernelIdeal.main_arg9)
  a10 := m ((c.tc : Thread KernelIdeal.nD KernelIdeal.τ).loc KernelIdeal.main_arg10)

def featsOf : Tree.Arr 10000 128 := m ((c.tc : Thread KernelIdeal.nD KernelIdeal.τ).loc KernelIdeal.main_arg0)

theorem kernel_value (y : KernelIdeal.S10000x128.Idx) : ((Go.dats m 0 c).arrAt 8 KernelIdeal.cfg0.N : Tree.Arr 10000 128) y
    = Trip.deep (weightsOf m c) (Tree.at2 (featsOf m c)) 2 (y 0) (y 1) := Go.value m c y

/-- The reference's result is the kernel's. -/
theorem results (hw : Trip.given m' c = weightsOf m c) (hx : Trip.feats m' c = featsOf m c) :
    (ReferenceIdeal.Value.out_main_v6 (ReferenceIdeal.Value.STEP^[20000] (StableHlo.entryContents ReferenceIdeal.Value.preI m' c)) : Tree.Arr 10000 128)
      = (Go.dats m 0 c).arrAt 8 KernelIdeal.cfg0.N :=
  funext fun y => ((Tree.at2_of _ y).trans (Trip.value m' c (y 0).isLt (y 1).isLt)).trans ((kernel_value m c y).trans (by rw [hw, hx])).symm
end

theorem value : Cert.algebraic_KernelIdeal_ReferenceIdeal := fun m ρ m' ρ' _ hm =>
  ⟨fun c => (Go.dats m 0 c).arrAt 8 KernelIdeal.cfg0.N,
    (θ_run Cert.KernelIdeal.defs _ _).mono (fun _ h c => ⟨h.2 c, h.1.1 c⟩) (Go.run_main (F := Ideal) m ρ),
    (θ_run Cert.ReferenceIdeal.defs _ _).mono (fun _ h c => ⟨(h c).1.trans (results m m' c
        (by obtain ⟨_, h1, h2, h3, h4, h5, h6, h7, h8, h9, h10⟩ := hm c; unfold Trip.given weightsOf; rw [h1, h2, h3, h4, h5, h6, h7, h8, h9, h10])
        (hm c).1), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
